-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x4096 : Shape := ⟨3, ![2, 2048, 4096]⟩
abbrev S2x496x128x128 : Shape := ⟨4, ![2, 496, 128, 128]⟩
abbrev S2x496 : Shape := ⟨2, ![2, 496]⟩
abbrev S2x32x128x128 : Shape := ⟨4, ![2, 32, 128, 128]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S2x496x128x128 : S_.BroadcastsInDim S2x496x128x128 (![] : Fin 0 → Fin S2x496x128x128.rank)
  reducesTo_S2x496x128x128_S_d0_1_2_3 : S2x496x128x128.ReducesTo [0, 1, 2, 3] S_
  bcast_S_S2x496 : S_.BroadcastsInDim S2x496 (![] : Fin 0 → Fin S2x496.rank)
  reducesTo_S2x496_S_d0_1 : S2x496.ReducesTo [0, 1] S_
  bcast_S_S2x32x128x128 : S_.BroadcastsInDim S2x32x128x128 (![] : Fin 0 → Fin S2x32x128x128.rank)
  reducesTo_S2x32x128x128_S_d0_1_2_3 : S2x32x128x128.ReducesTo [0, 1, 2, 3] S_

variable [Facts]

def fn_part1 {F : FTy → Type} [FloatOps F] (main_v13 : IVec S_ 1) (main_v16 : IVec S2x32x128x128 1) : IVec S_ 1 :=
  let main_c_5 : IVec S_ 1 := constantI S_ 1 1#1
  let main_v17 : IVec S_ 1 := (fun x v => Host.reduce IntOp.andi x v reducesTo_S2x32x128x128_S_d0_1_2_3 h_S_) main_v16 main_c_5
  let main_v18 : IVec S_ 1 := andi main_v13 main_v17
  main_v18

def fn {F : FTy → Type} [FloatOps F] (main_arg0 : FVec F S2x2048x4096 .f32) (main_arg1 : FVec F S2x496x128x128 .f32) (main_arg2 : FVec F S2x496 .f32) (main_arg3 : FVec F S2x32x128x128 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S2x496x128x128 .f32 := Host.absf main_arg1
  let main_cst_0 : FVec F S_ .f32 := constant S_ .f32 0x7F800000#32
  let main_v5 : FVec F S2x496x128x128 .f32 := broadcastInDim S2x496x128x128 ![] bcast_S_S2x496x128x128 main_cst_0
  let main_v6 : IVec S2x496x128x128 1 := cmpf .olt main_v4 main_v5
  let main_c_1 : IVec S_ 1 := constantI S_ 1 1#1
  let main_v7 : IVec S_ 1 := (fun x v => Host.reduce IntOp.andi x v reducesTo_S2x496x128x128_S_d0_1_2_3 h_S_) main_v6 main_c_1
  let main_v8 : IVec S_ 1 := andi main_v3 main_v7
  let main_v9 : FVec F S2x496 .f32 := Host.absf main_arg2
  let main_cst_2 : FVec F S_ .f32 := constant S_ .f32 0x7F800000#32
  let main_v10 : FVec F S2x496 .f32 := broadcastInDim S2x496 ![] bcast_S_S2x496 main_cst_2
  let main_v11 : IVec S2x496 1 := cmpf .olt main_v9 main_v10
  let main_c_3 : IVec S_ 1 := constantI S_ 1 1#1
  let main_v12 : IVec S_ 1 := (fun x v => Host.reduce IntOp.andi x v reducesTo_S2x496_S_d0_1 h_S_) main_v11 main_c_3
  let main_v13 : IVec S_ 1 := andi main_v8 main_v12
  let main_v14 : FVec F S2x32x128x128 .f32 := Host.absf main_arg3
  let main_cst_4 : FVec F S_ .f32 := constant S_ .f32 0x7F800000#32
  let main_v15 : FVec F S2x32x128x128 .f32 := broadcastInDim S2x32x128x128 ![] bcast_S_S2x32x128x128 main_cst_4
  let main_v16 : IVec S2x32x128x128 1 := cmpf .olt main_v14 main_v15
  fn_part1 (F := F) main_v13 main_v16
-- ==== Kernel.lean ====
abbrev S2x2048x4096 : Shape := ⟨3, ![2, 2048, 4096]⟩
abbrev S2x496x128x128 : Shape := ⟨4, ![2, 496, 128, 128]⟩
abbrev S2x496 : Shape := ⟨2, ![2, 496]⟩
abbrev S2x32x128x128 : Shape := ⟨4, ![2, 32, 128, 128]⟩
abbrev S2x32x2048 : Shape := ⟨3, ![2, 32, 2048]⟩
abbrev S1x256x4096 : Shape := ⟨3, ![1, 256, 4096]⟩
abbrev S1x496x128x128 : Shape := ⟨4, ![1, 496, 128, 128]⟩
abbrev S1x32x128x128 : Shape := ⟨4, ![1, 32, 128, 128]⟩
abbrev S1x32x256 : Shape := ⟨3, ![1, 32, 256]⟩
abbrev S32x1x128x256 : Shape := ⟨4, ![32, 1, 128, 256]⟩
abbrev S32x3x128x128 : Shape := ⟨4, ![32, 3, 128, 128]⟩
abbrev S1x1x128x128 : Shape := ⟨4, ![1, 1, 128, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S128x768 : Shape := ⟨2, ![128, 768]⟩
abbrev S768x256 : Shape := ⟨2, ![768, 256]⟩
abbrev S256 : Shape := ⟨1, ![256]⟩
abbrev S1x256 : Shape := ⟨2, ![1, 256]⟩
abbrev S256x256 : Shape := ⟨2, ![256, 256]⟩
abbrev S1x1x128x256 : Shape := ⟨4, ![1, 1, 128, 256]⟩
abbrev S1x1x256 : Shape := ⟨3, ![1, 1, 256]⟩
abbrev S1x1 : Shape := ⟨2, ![1, 1]⟩
abbrev S2x2048x32 : Shape := ⟨3, ![2, 2048, 32]⟩

abbrev nBuf : Space → Nat
  | .hbm => 9
  | .vmem => 14
  | .smem => 1
  | _ => 0

abbrev bufTy : (tb : Table) → Fin (tcTables nBuf tb) → BufTy
  | .hbm, ⟨0, _⟩ => ⟨S2x2048x4096, .f32⟩
  | .hbm, ⟨1, _⟩ => ⟨S2x496x128x128, .f32⟩
  | .hbm, ⟨2, _⟩ => ⟨S2x496, .f32⟩
  | .hbm, ⟨3, _⟩ => ⟨S2x32x128x128, .f32⟩
  | .hbm, ⟨4, _⟩ => ⟨S2x496x128x128, .fp8e4m3⟩
  | .hbm, ⟨5, _⟩ => ⟨S2x2048x4096, .f32⟩
  | .hbm, ⟨6, _⟩ => ⟨S2x2048x4096, .fp8e4m3⟩
  | .hbm, ⟨7, _⟩ => ⟨S2x32x2048, .f32⟩
  | .hbm, ⟨8, _⟩ => ⟨S2x2048x32, .f32⟩
  | .local _ .vmem, ⟨0, _⟩ => ⟨S1x256x4096, .f32⟩
  | .local _ .vmem, ⟨1, _⟩ => ⟨S1x256x4096, .f32⟩
  | .local _ .vmem, ⟨2, _⟩ => ⟨S1x496x128x128, .fp8e4m3⟩
  | .local _ .vmem, ⟨3, _⟩ => ⟨S1x496x128x128, .fp8e4m3⟩
  | .local _ .vmem, ⟨4, _⟩ => ⟨S1x32x128x128, .f32⟩
  | .local _ .vmem, ⟨5, _⟩ => ⟨S1x32x128x128, .f32⟩
  | .local _ .vmem, ⟨6, _⟩ => ⟨S1x256x4096, .f32⟩
  | .local _ .vmem, ⟨7, _⟩ => ⟨S1x256x4096, .f32⟩
  | .local _ .vmem, ⟨8, _⟩ => ⟨S1x256x4096, .fp8e4m3⟩
  | .local _ .vmem, ⟨9, _⟩ => ⟨S1x256x4096, .fp8e4m3⟩
  | .local _ .vmem, ⟨10, _⟩ => ⟨S1x32x256, .f32⟩
  | .local _ .vmem, ⟨11, _⟩ => ⟨S1x32x256, .f32⟩
  | .local _ .vmem, ⟨12, _⟩ => ⟨S32x1x128x256, .fp8e4m3⟩
  | .local _ .vmem, ⟨13, _⟩ => ⟨S32x3x128x128, .bf16⟩
  | .local _ .smem, ⟨0, _⟩ => ⟨S2x496, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let v90 : Index := Scalar.indexCast arg0
  let c0_49 : Index := 0#32
  ![v90.toNat, 0]
def k0_off2 (i : grid0.Coords) : Fin 2 → Nat :=
  let arg0 : BitVec 32 := BitVec.ofNat 32 (i 0).val
  let v181 : Index := Scalar.indexCast arg0
  let c1_105 : Index := 1#32
  ![v181.toNat, 1]
def k0_off3 (i : grid0.Coords) : Fin 2 → Nat :=
  let arg0 : BitVec 32 := BitVec.ofNat 32 (i 0).val
  let v195 : Index := Scalar.indexCast arg0
  let c31_117 : Index := 31#32
  ![v195.toNat, 31]
def k0_off4 (i : grid0.Coords) : Fin 2 → Nat :=
  let arg0 : BitVec 32 := BitVec.ofNat 32 (i 0).val
  let v286 : Index := Scalar.indexCast arg0
  let c2_173 : Index := 2#32
  ![v286.toNat, 2]
def k0_off5 (i : grid0.Coords) : Fin 2 → Nat :=
  let arg0 : BitVec 32 := BitVec.ofNat 32 (i 0).val
  let v300 : Index := Scalar.indexCast arg0
  let c32_185 : Index := 32#32
  ![v300.toNat, 32]
def k0_off6 (i : grid0.Coords) : Fin 2 → Nat :=
  let arg0 : BitVec 32 := BitVec.ofNat 32 (i 0).val
  let v314 : Index := Scalar.indexCast arg0
  let c61_197 : Index := 61#32
  ![v314.toNat, 61]
def k0_off7 (i : grid0.Coords) : Fin 2 → Nat :=
  let arg0 : BitVec 32 := BitVec.ofNat 32 (i 0).val
  let v405 : Index := Scalar.indexCast arg0
  let c3_252 : Index := 3#32
  ![v405.toNat, 3]
def k0_off8 (i : grid0.Coords) : Fin 2 → Nat :=
  let arg0 : BitVec 32 := BitVec.ofNat 32 (i 0).val
  let v419 : Index := Scalar.indexCast arg0
  let c33_264 : Index := 33#32
  ![v419.toNat, 33]
def k0_off9 (i : grid0.Coords) : Fin 2 → Nat :=
  let arg0 : BitVec 32 := BitVec.ofNat 32 (i 0).val
  let v433 : Index := Scalar.indexCast arg0
  let c62_276 : Index := 62#32
  ![v433.toNat, 62]
def k0_off10 (i : grid0.Coords) : Fin 2 → Nat :=
  let arg0 : BitVec 32 := BitVec.ofNat 32 (i 0).val
  let v447 : Index := Scalar.indexCast arg0
  let c90_288 : Index := 90#32
  ![v447.toNat, 90]
def k0_off11 (i : grid0.Coords) : Fin 2 → Nat :=
  let arg0 : BitVec 32 := BitVec.ofNat 32 (i 0).val
  let v538 : Index := Scalar.indexCast arg0
  let c4_343 : Index := 4#32
  ![v538.toNat, 4]
def k0_off12 (i : grid0.Coords) : Fin 2 → Nat :=
  let arg0 : BitVec 32 := BitVec.ofNat 32 (i 0).val
  let v552 : Index := Scalar.indexCast arg0
  let c34_355 : Index := 34#32
  ![v552.toNat, 34]
def k0_off13 (i : grid0.Coords) : Fin 2 → Nat :=
  let arg0 : BitVec 32 := BitVec.ofNat 32 (i 0).val
  let v566 : Index := Scalar.indexCast arg0
  let c63_367 : Index := 63#32
  ![v566.toNat, 63]
def k0_off14 (i : grid0.Coords) : Fin 2 → Nat :=
  let arg0 : BitVec 32 := BitVec.ofNat 32 (i 0).val
  let v580 : Index := Scalar.indexCast arg0
  let c91_379 : Index := 91#32
  ![v580.toNat, 91]
def k0_off15 (i : grid0.Coords) : Fin 2 → Nat :=
  let arg0 : BitVec 32 := BitVec.ofNat 32 (i 0).val
  let v594 : Index := Scalar.indexCast arg0
  let c118_391 : Index := 118#32
  ![v594.toNat, 118]
def k0_off16 (i : grid0.Coords) : Fin 2 → Nat :=
  let arg0 : BitVec 32 := BitVec.ofNat 32 (i 0).val
  let v685 : Index := Scalar.indexCast arg0
  let c5_446 : Index := 5#32
  ![v685.toNat, 5]
def k0_off17 (i : grid0.Coords) : Fin 2 → Nat :=
  let arg0 : BitVec 32 := BitVec.ofNat 32 (i 0).val
  let v699 : Index := Scalar.indexCast arg0
  let c35_458 : Index := 35#32
  ![v699.toNat, 35]
def k0_off18 (i : grid0.Coords) : Fin 2 → Nat :=
  let arg0 : BitVec 32 := BitVec.ofNat 32 (i 0).val
  let v713 : Index := Scalar.indexCast arg0
  let c64_470 : Index := 64#32
  ![v713.toNat, 64]
def k0_off19 (i : grid0.Coords) : Fin 2 → Nat :=
  let arg0 : BitVec 32 := BitVec.ofNat 32 (i 0).val
  let v727 : Index := Scalar.indexCast arg0
  let c92_482 : Index := 92#32
  ![v727.toNat, 92]
def k0_off20 (i : grid0.Coords) : Fin 2 → Nat :=
  let arg0 : BitVec 32 := BitVec.ofNat 32 (i 0).val
  let v741 : Index := Scalar.indexCast arg0
  let c119_494 : Index := 119#32
  ![v741.toNat, 119]
def k0_off21 (i : grid0.Coords) : Fin 2 → Nat :=
  let arg0 : BitVec 32 := BitVec.ofNat 32 (i 0).val
  let v755 : Index := Scalar.indexCast arg0
  let c145_506 : Index := 145#32
  ![v755.toNat, 145]
def k0_off22 (i : grid0.Coords) : Fin 2 → Nat :=
  let arg0 : BitVec 32 := BitVec.ofNat 32 (i 0).val
  let v846 : Index := Scalar.indexCast arg0
  let c6_561 : Index := 6#32
  ![v846.toNat, 6]
def k0_off23 (i : grid0.Coords) : Fin 2 → Nat :=
  let arg0 : BitVec 32 := BitVec.ofNat 32 (i 0).val
  let v860 : Index := Scalar.indexCast arg0
  let c36_573 : Index := 36#32
  ![v860.toNat, 36]
def k0_off24 (i : grid0.Coords) : Fin 2 → Nat :=
  let arg0 : BitVec 32 := BitVec.ofNat 32 (i 0).val
  let v874 : Index := Scalar.indexCast arg0
  let c65_585 : Index := 65#32
  ![v874.toNat, 65]
def k0_off25 (i : grid0.Coords) : Fin 2 → Nat :=
  let arg0 : BitVec 32 := BitVec.ofNat 32 (i 0).val
  let v888 : Index := Scalar.indexCast arg0
  let c93_597 : Index := 93#32
  ![v888.toNat, 93]
def k0_off26 (i : grid0.Coords) : Fin 2 → Nat :=
  let arg0 : BitVec 32 := BitVec.ofNat 32 (i 0).val
  let v902 : Index := Scalar.indexCast arg0
  let c120_609 : Index := 120#32
  ![v902.toNat, 120]
def k0_off27 (i : grid0.Coords) : Fin 2 → Nat :=
  let arg0 : BitVec 32 := BitVec.ofNat 32 (i 0).val
  let v916 : Index := Scalar.indexCast arg0
  let c146_621 : Index := 146#32
  ![v916.toNat, 146]
def k0_off28 (i : grid0.Coords) : Fin 2 → Nat :=
  let arg0 : BitVec 32 := BitVec.ofNat 32 (i 0).val
  let v930 : Index := Scalar.indexCast arg0
  let c171_633 : Index := 171#32
  ![v930.toNat, 171]
def k0_off29 (i : grid0.Coords) : Fin 2 → Nat :=
  let arg0 : BitVec 32 := BitVec.ofNat 32 (i 0).val
  let v1021 : Index := Scalar.indexCast arg0
  let c7_688 : Index := 7#32
  ![v1021.toNat, 7]
def k0_off30 (i : grid0.Coords) : Fin 2 → Nat :=
  let arg0 : BitVec 32 := BitVec.ofNat 32 (i 0).val
  let v1035 : Index := Scalar.indexCast arg0
  let c37_700 : Index := 37#32
  ![v1035.toNat, 37]
def k0_off31 (i : grid0.Coords) : Fin 2 → Nat :=
  let arg0 : BitVec 32 := BitVec.ofNat 32 (i 0).val
  let v1049 : Index := Scalar.indexCast arg0
  let c66_712 : Index := 66#32
  ![v1049.toNat, 66]
def k0_off32 (i : grid0.Coords) : Fin 2 → Nat :=
  let arg0 : BitVec 32 := BitVec.ofNat 32 (i 0).val
  let v1063 : Index := Scalar.indexCast arg0
  let c94_724 : Index := 94#32
  ![v1063.toNat, 94]
def k0_off33 (i : grid0.Coords) : Fin 2 → Nat :=
  let arg0 : BitVec 32 := BitVec.ofNat 32 (i 0).val
  let v1077 : Index := Scalar.indexCast arg0
  let c121_736 : Index := 121#32
  ![v1077.toNat, 121]
def k0_off34 (i : grid0.Coords) : Fin 2 → Nat :=
  let arg0 : BitVec 32 := BitVec.ofNat 32 (i 0).val
  let v1091 : Index := Scalar.indexCast arg0
  let c147_748 : Index := 147#32
  ![v1091.toNat, 147]
def k0_off35 (i : grid0.Coords) : Fin 2 → Nat :=
  let arg0 : BitVec 32 := BitVec.ofNat 32 (i 0).val
  let v1105 : Index := Scalar.indexCast arg0
  let c172_760 : Index := 172#32
  ![v1105.toNat, 172]
def k0_off36 (i : grid0.Coords) : Fin 2 → Nat :=
  let arg0 : BitVec 32 := BitVec.ofNat 32 (i 0).val
  let v1119 : Index := Scalar.indexCast arg0
  let c196_772 : Index := 196#32
  ![v1119.toNat, 196]
def k0_off37 (i : grid0.Coords) : Fin 2 → Nat :=
  let arg0 : BitVec 32 := BitVec.ofNat 32 (i 0).val
  let v1210 : Index := Scalar.indexCast arg0
  let c8_827 : Index := 8#32
  ![v1210.toNat, 8]
def k0_off38 (i : grid0.Coords) : Fin 2 → Nat :=
  let arg0 : BitVec 32 := BitVec.ofNat 32 (i 0).val
  let v1224 : Index := Scalar.indexCast arg0
  let c38_839 : Index := 38#32
  ![v1224.toNat, 38]
def k0_off39 (i : grid0.Coords) : Fin 2 → Nat :=
  let arg0 : BitVec 32 := BitVec.ofNat 32 (i 0).val
  let v1238 : Index := Scalar.indexCast arg0
  let c67_851 : Index := 67#32
  ![v1238.toNat, 67]
def k0_off40 (i : grid0.Coords) : Fin 2 → Nat :=
  let arg0 : BitVec 32 := BitVec.ofNat 32 (i 0).val
  let v1252 : Index := Scalar.indexCast arg0
  let c95_863 : Index := 95#32
  ![v1252.toNat, 95]
def k0_off41 (i : grid0.Coords) : Fin 2 → Nat :=
  let arg0 : BitVec 32 := BitVec.ofNat 32 (i 0).val
  let v1266 : Index := Scalar.indexCast arg0
  let c122_875 : Index := 122#32
  ![v1266.toNat, 122]
def k0_off42 (i : grid0.Coords) : Fin 2 → Nat :=
  let arg0 : BitVec 32 := BitVec.ofNat 32 (i 0).val
  let v1280 : Index := Scalar.indexCast arg0
  let c148_887 : Index := 148#32
  ![v1280.toNat, 148]
def k0_off43 (i : grid0.Coords) : Fin 2 → Nat :=
  let arg0 : BitVec 32 := BitVec.ofNat 32 (i 0).val
  let v1294 : Index := Scalar.indexCast arg0
  let c173_899 : Index := 173#32
  ![v1294.toNat, 173]
def k0_off44 (i : grid0.Coords) : Fin 2 → Nat :=
  let arg0 : BitVec 32 := BitVec.ofNat 32 (i 0).val
  let v1308 : Index := Scalar.indexCast arg0
  let c197_911 : Index := 197#32
  ![v1308.toNat, 197]
def k0_off45 (i : grid0.Coords) : Fin 2 → Nat :=
  let arg0 : BitVec 32 := BitVec.ofNat 32 (i 0).val
  let v1322 : Index := Scalar.indexCast arg0
  let c220_923 : Index := 220#32
  ![v1322.toNat, 220]
def k0_off46 (i : grid0.Coords) : Fin 2 → Nat :=
  let arg0 : BitVec 32 := BitVec.ofNat 32 (i 0).val
  let v1413 : Index := Scalar.indexCast arg0
  let c9_978 : Index := 9#32
  ![v1413.toNat, 9]
def k0_off47 (i : grid0.Coords) : Fin 2 → Nat :=
  let arg0 : BitVec 32 := BitVec.ofNat 32 (i 0).val
  let v1427 : Index := Scalar.indexCast arg0
  let c39_990 : Index := 39#32
  ![v1427.toNat, 39]
def k0_off48 (i : grid0.Coords) : Fin 2 → Nat :=
  let arg0 : BitVec 32 := BitVec.ofNat 32 (i 0).val
  let v1441 : Index := Scalar.indexCast arg0
  let c68_1002 : Index := 68#32
  ![v1441.toNat, 68]
def k0_off49 (i : grid0.Coords) : Fin 2 → Nat :=
  let arg0 : BitVec 32 := BitVec.ofNat 32 (i 0).val
  let v1455 : Index := Scalar.indexCast arg0
  let c96_1014 : Index := 96#32
  ![v1455.toNat, 96]
def k0_off50 (i : grid0.Coords) : Fin 2 → Nat :=
  let arg0 : BitVec 32 := BitVec.ofNat 32 (i 0).val
  let v1469 : Index := Scalar.indexCast arg0
  let c123_1026 : Index := 123#32
  ![v1469.toNat, 123]
def k0_off51 (i : grid0.Coords) : Fin 2 → Nat :=
  let arg0 : BitVec 32 := BitVec.ofNat 32 (i 0).val
  let v1483 : Index := Scalar.indexCast arg0
  let c149_1038 : Index := 149#32
  ![v1483.toNat, 149]
def k0_off52 (i : grid0.Coords) : Fin 2 → Nat :=
  let arg0 : BitVec 32 := BitVec.ofNat 32 (i 0).val
  let v1497 : Index := Scalar.indexCast arg0
  let c174_1050 : Index := 174#32
  ![v1497.toNat, 174]
def k0_off53 (i : grid0.Coords) : Fin 2 → Nat :=
  let arg0 : BitVec 32 := BitVec.ofNat 32 (i 0).val
  let v1511 : Index := Scalar.indexCast arg0
  let c198_1062 : Index := 198#32
  ![v1511.toNat, 198]
def k0_off54 (i : grid0.Coords) : Fin 2 → Nat :=
  let arg0 : BitVec 32 := BitVec.ofNat 32 (i 0).val
  let v1525 : Index := Scalar.indexCast arg0
  let c221_1074 : Index := 221#32
  ![v1525.toNat, 221]
def k0_off55 (i : grid0.Coords) : Fin 2 → Nat :=
  let arg0 : BitVec 32 := BitVec.ofNat 32 (i 0).val
  let v1539 : Index := Scalar.indexCast arg0
  let c243_1086 : Index := 243#32
  ![v1539.toNat, 243]
def k0_off56 (i : grid0.Coords) : Fin 2 → Nat :=
  let arg0 : BitVec 32 := BitVec.ofNat 32 (i 0).val
  let v1630 : Index := Scalar.indexCast arg0
  let c10_1141 : Index := 10#32
  ![v1630.toNat, 10]
def k0_off57 (i : grid0.Coords) : Fin 2 → Nat :=
  let arg0 : BitVec 32 := BitVec.ofNat 32 (i 0).val
  let v1644 : Index := Scalar.indexCast arg0
  let c40_1153 : Index := 40#32
  ![v1644.toNat, 40]
def k0_off58 (i : grid0.Coords) : Fin 2 → Nat :=
  let arg0 : BitVec 32 := BitVec.ofNat 32 (i 0).val
  let v1658 : Index := Scalar.indexCast arg0
  let c69_1165 : Index := 69#32
  ![v1658.toNat, 69]
def k0_off59 (i : grid0.Coords) : Fin 2 → Nat :=
  let arg0 : BitVec 32 := BitVec.ofNat 32 (i 0).val
  let v1672 : Index := Scalar.indexCast arg0
  let c97_1177 : Index := 97#32
  ![v1672.toNat, 97]
def k0_off60 (i : grid0.Coords) : Fin 2 → Nat :=
  let arg0 : BitVec 32 := BitVec.ofNat 32 (i 0).val
  let v1686 : Index := Scalar.indexCast arg0
  let c124_1189 : Index := 124#32
  ![v1686.toNat, 124]
def k0_off61 (i : grid0.Coords) : Fin 2 → Nat :=
  let arg0 : BitVec 32 := BitVec.ofNat 32 (i 0).val
  let v1700 : Index := Scalar.indexCast arg0
  let c150_1201 : Index := 150#32
  ![v1700.toNat, 150]
def k0_off62 (i : grid0.Coords) : Fin 2 → Nat :=
  let arg0 : BitVec 32 := BitVec.ofNat 32 (i 0).val
  let v1714 : Index := Scalar.indexCast arg0
  let c175_1213 : Index := 175#32
  ![v1714.toNat, 175]
def k0_off63 (i : grid0.Coords) : Fin 2 → Nat :=
  let arg0 : BitVec 32 := BitVec.ofNat 32 (i 0).val
  let v1728 : Index := Scalar.indexCast arg0
  let c199_1225 : Index := 199#32
  ![v1728.toNat, 199]
def k0_off64 (i : grid0.Coords) : Fin 2 → Nat :=
  let arg0 : BitVec 32 := BitVec.ofNat 32 (i 0).val
  let v1742 : Index := Scalar.indexCast arg0
  let c222_1237 : Index := 222#32
  ![v1742.toNat, 222]
def k0_off65 (i : grid0.Coords) : Fin 2 → Nat :=
  let arg0 : BitVec 32 := BitVec.ofNat 32 (i 0).val
  let v1756 : Index := Scalar.indexCast arg0
  let c244_1249 : Index := 244#32
  ![v1756.toNat, 244]
def k0_off66 (i : grid0.Coords) : Fin 2 → Nat :=
  let arg0 : BitVec 32 := BitVec.ofNat 32 (i 0).val
  let v1770 : Index := Scalar.indexCast arg0
  let c265_1261 : Index := 265#32
  ![v1770.toNat, 265]
def k0_off67 (i : grid0.Coords) : Fin 2 → Nat :=
  let arg0 : BitVec 32 := BitVec.ofNat 32 (i 0).val
  let v1861 : Index := Scalar.indexCast arg0
  let c11_1316 : Index := 11#32
  ![v1861.toNat, 11]
def k0_off68 (i : grid0.Coords) : Fin 2 → Nat :=
  let arg0 : BitVec 32 := BitVec.ofNat 32 (i 0).val
  let v1875 : Index := Scalar.indexCast arg0
  let c41_1328 : Index := 41#32
  ![v1875.toNat, 41]
def k0_off69 (i : grid0.Coords) : Fin 2 → Nat :=
  let arg0 : BitVec 32 := BitVec.ofNat 32 (i 0).val
  let v1889 : Index := Scalar.indexCast arg0
  let c70_1340 : Index := 70#32
  ![v1889.toNat, 70]
def k0_off70 (i : grid0.Coords) : Fin 2 → Nat :=
  let arg0 : BitVec 32 := BitVec.ofNat 32 (i 0).val
  let v1903 : Index := Scalar.indexCast arg0
  let c98_1352 : Index := 98#32
  ![v1903.toNat, 98]
def k0_off71 (i : grid0.Coords) : Fin 2 → Nat :=
  let arg0 : BitVec 32 := BitVec.ofNat 32 (i 0).val
  let v1917 : Index := Scalar.indexCast arg0
  let c125_1364 : Index := 125#32
  ![v1917.toNat, 125]
def k0_off72 (i : grid0.Coords) : Fin 2 → Nat :=
  let arg0 : BitVec 32 := BitVec.ofNat 32 (i 0).val
  let v1931 : Index := Scalar.indexCast arg0
  let c151_1376 : Index := 151#32
  ![v1931.toNat, 151]
def k0_off73 (i : grid0.Coords) : Fin 2 → Nat :=
  let arg0 : BitVec 32 := BitVec.ofNat 32 (i 0).val
  let v1945 : Index := Scalar.indexCast arg0
  let c176_1388 : Index := 176#32
  ![v1945.toNat, 176]
def k0_off74 (i : grid0.Coords) : Fin 2 → Nat :=
  let arg0 : BitVec 32 := BitVec.ofNat 32 (i 0).val
  let v1959 : Index := Scalar.indexCast arg0
  let c200_1400 : Index := 200#32
  ![v1959.toNat, 200]
def k0_off75 (i : grid0.Coords) : Fin 2 → Nat :=
  let arg0 : BitVec 32 := BitVec.ofNat 32 (i 0).val
  let v1973 : Index := Scalar.indexCast arg0
  let c223_1412 : Index := 223#32
  ![v1973.toNat, 223]
def k0_off76 (i : grid0.Coords) : Fin 2 → Nat :=
  let arg0 : BitVec 32 := BitVec.ofNat 32 (i 0).val
  let v1987 : Index := Scalar.indexCast arg0
  let c245_1424 : Index := 245#32
  ![v1987.toNat, 245]
def k0_off77 (i : grid0.Coords) : Fin 2 → Nat :=
  let arg0 : BitVec 32 := BitVec.ofNat 32 (i 0).val
  let v2001 : Index := Scalar.indexCast arg0
  let c266_1436 : Index := 266#32
  ![v2001.toNat, 266]
def k0_off78 (i : grid0.Coords) : Fin 2 → Nat :=
  let arg0 : BitVec 32 := BitVec.ofNat 32 (i 0).val
  let v2015 : Index := Scalar.indexCast arg0
  let c286_1448 : Index := 286#32
  ![v2015.toNat, 286]
def k0_off79 (i : grid0.Coords) : Fin 2 → Nat :=
  let arg0 : BitVec 32 := BitVec.ofNat 32 (i 0).val
  let v2106 : Index := Scalar.indexCast arg0
  let c12_1503 : Index := 12#32
  ![v2106.toNat, 12]
def k0_off80 (i : grid0.Coords) : Fin 2 → Nat :=
  let arg0 : BitVec 32 := BitVec.ofNat 32 (i 0).val
  let v2120 : Index := Scalar.indexCast arg0
  let c42_1515 : Index := 42#32
  ![v2120.toNat, 42]
def k0_off81 (i : grid0.Coords) : Fin 2 → Nat :=
  let arg0 : BitVec 32 := BitVec.ofNat 32 (i 0).val
  let v2134 : Index := Scalar.indexCast arg0
  let c71_1527 : Index := 71#32
  ![v2134.toNat, 71]
def k0_off82 (i : grid0.Coords) : Fin 2 → Nat :=
  let arg0 : BitVec 32 := BitVec.ofNat 32 (i 0).val
  let v2148 : Index := Scalar.indexCast arg0
  let c99_1539 : Index := 99#32
  ![v2148.toNat, 99]
def k0_off83 (i : grid0.Coords) : Fin 2 → Nat :=
  let arg0 : BitVec 32 := BitVec.ofNat 32 (i 0).val
  let v2162 : Index := Scalar.indexCast arg0
  let c126_1551 : Index := 126#32
  ![v2162.toNat, 126]
def k0_off84 (i : grid0.Coords) : Fin 2 → Nat :=
  let arg0 : BitVec 32 := BitVec.ofNat 32 (i 0).val
  let v2176 : Index := Scalar.indexCast arg0
  let c152_1563 : Index := 152#32
  ![v2176.toNat, 152]
def k0_off85 (i : grid0.Coords) : Fin 2 → Nat :=
  let arg0 : BitVec 32 := BitVec.ofNat 32 (i 0).val
  let v2190 : Index := Scalar.indexCast arg0
  let c177_1575 : Index := 177#32
  ![v2190.toNat, 177]
def k0_off86 (i : grid0.Coords) : Fin 2 → Nat :=
  let arg0 : BitVec 32 := BitVec.ofNat 32 (i 0).val
  let v2204 : Index := Scalar.indexCast arg0
  let c201_1587 : Index := 201#32
  ![v2204.toNat, 201]
def k0_off87 (i : grid0.Coords) : Fin 2 → Nat :=
  let arg0 : BitVec 32 := BitVec.ofNat 32 (i 0).val
  let v2218 : Index := Scalar.indexCast arg0
  let c224_1599 : Index := 224#32
  ![v2218.toNat, 224]
def k0_off88 (i : grid0.Coords) : Fin 2 → Nat :=
  let arg0 : BitVec 32 := BitVec.ofNat 32 (i 0).val
  let v2232 : Index := Scalar.indexCast arg0
  let c246_1611 : Index := 246#32
  ![v2232.toNat, 246]
def k0_off89 (i : grid0.Coords) : Fin 2 → Nat :=
  let arg0 : BitVec 32 := BitVec.ofNat 32 (i 0).val
  let v2246 : Index := Scalar.indexCast arg0
  let c267_1623 : Index := 267#32
  ![v2246.toNat, 267]
def k0_off90 (i : grid0.Coords) : Fin 2 → Nat :=
  let arg0 : BitVec 32 := BitVec.ofNat 32 (i 0).val
  let v2260 : Index := Scalar.indexCast arg0
  let c287_1635 : Index := 287#32
  ![v2260.toNat, 287]
def k0_off91 (i : grid0.Coords) : Fin 2 → Nat :=
  let arg0 : BitVec 32 := BitVec.ofNat 32 (i 0).val
  let v2274 : Index := Scalar.indexCast arg0
  let c306_1647 : Index := 306#32
  ![v2274.toNat, 306]
def k0_off92 (i : grid0.Coords) : Fin 2 → Nat :=
  let arg0 : BitVec 32 := BitVec.ofNat 32 (i 0).val
  let v2365 : Index := Scalar.indexCast arg0
  let c13_1702 : Index := 13#32
  ![v2365.toNat, 13]
def k0_off93 (i : grid0.Coords) : Fin 2 → Nat :=
  let arg0 : BitVec 32 := BitVec.ofNat 32 (i 0).val
  let v2379 : Index := Scalar.indexCast arg0
  let c43_1714 : Index := 43#32
  ![v2379.toNat, 43]
def k0_off94 (i : grid0.Coords) : Fin 2 → Nat :=
  let arg0 : BitVec 32 := BitVec.ofNat 32 (i 0).val
  let v2393 : Index := Scalar.indexCast arg0
  let c72_1726 : Index := 72#32
  ![v2393.toNat, 72]
def k0_off95 (i : grid0.Coords) : Fin 2 → Nat :=
  let arg0 : BitVec 32 := BitVec.ofNat 32 (i 0).val
  let v2407 : Index := Scalar.indexCast arg0
  let c100_1738 : Index := 100#32
  ![v2407.toNat, 100]
def k0_off96 (i : grid0.Coords) : Fin 2 → Nat :=
  let arg0 : BitVec 32 := BitVec.ofNat 32 (i 0).val
  let v2421 : Index := Scalar.indexCast arg0
  let c127_1750 : Index := 127#32
  ![v2421.toNat, 127]
def k0_off97 (i : grid0.Coords) : Fin 2 → Nat :=
  let arg0 : BitVec 32 := BitVec.ofNat 32 (i 0).val
  let v2435 : Index := Scalar.indexCast arg0
  let c153_1762 : Index := 153#32
  ![v2435.toNat, 153]
def k0_off98 (i : grid0.Coords) : Fin 2 → Nat :=
  let arg0 : BitVec 32 := BitVec.ofNat 32 (i 0).val
  let v2449 : Index := Scalar.indexCast arg0
  let c178_1774 : Index := 178#32
  ![v2449.toNat, 178]
def k0_off99 (i : grid0.Coords) : Fin 2 → Nat :=
  let arg0 : BitVec 32 := BitVec.ofNat 32 (i 0).val
  let v2463 : Index := Scalar.indexCast arg0
  let c202_1786 : Index := 202#32
  ![v2463.toNat, 202]
def k0_off100 (i : grid0.Coords) : Fin 2 → Nat :=
  let arg0 : BitVec 32 := BitVec.ofNat 32 (i 0).val
  let v2477 : Index := Scalar.indexCast arg0
  let c225_1798 : Index := 225#32
  ![v2477.toNat, 225]
def k0_off101 (i : grid0.Coords) : Fin 2 → Nat :=
  let arg0 : BitVec 32 := BitVec.ofNat 32 (i 0).val
  let v2491 : Index := Scalar.indexCast arg0
  let c247_1810 : Index := 247#32
  ![v2491.toNat, 247]
def k0_off102 (i : grid0.Coords) : Fin 2 → Nat :=
  let arg0 : BitVec 32 := BitVec.ofNat 32 (i 0).val
  let v2505 : Index := Scalar.indexCast arg0
  let c268_1822 : Index := 268#32
  ![v2505.toNat, 268]
def k0_off103 (i : grid0.Coords) : Fin 2 → Nat :=
  let arg0 : BitVec 32 := BitVec.ofNat 32 (i 0).val
  let v2519 : Index := Scalar.indexCast arg0
  let c288_1834 : Index := 288#32
  ![v2519.toNat, 288]
def k0_off104 (i : grid0.Coords) : Fin 2 → Nat :=
  let arg0 : BitVec 32 := BitVec.ofNat 32 (i 0).val
  let v2533 : Index := Scalar.indexCast arg0
  let c307_1846 : Index := 307#32
  ![v2533.toNat, 307]
def k0_off105 (i : grid0.Coords) : Fin 2 → Nat :=
  let arg0 : BitVec 32 := BitVec.ofNat 32 (i 0).val
  let v2547 : Index := Scalar.indexCast arg0
  let c325_1858 : Index := 325#32
  ![v2547.toNat, 325]
def k0_off106 (i : grid0.Coords) : Fin 2 → Nat :=
  let arg0 : BitVec 32 := BitVec.ofNat 32 (i 0).val
  let v2638 : Index := Scalar.indexCast arg0
  let c14_1913 : Index := 14#32
  ![v2638.toNat, 14]
def k0_off107 (i : grid0.Coords) : Fin 2 → Nat :=
  let arg0 : BitVec 32 := BitVec.ofNat 32 (i 0).val
  let v2652 : Index := Scalar.indexCast arg0
  let c44_1925 : Index := 44#32
  ![v2652.toNat, 44]
def k0_off108 (i : grid0.Coords) : Fin 2 → Nat :=
  let arg0 : BitVec 32 := BitVec.ofNat 32 (i 0).val
  let v2666 : Index := Scalar.indexCast arg0
  let c73_1937 : Index := 73#32
  ![v2666.toNat, 73]
def k0_off109 (i : grid0.Coords) : Fin 2 → Nat :=
  let arg0 : BitVec 32 := BitVec.ofNat 32 (i 0).val
  let v2680 : Index := Scalar.indexCast arg0
  let c101_1949 : Index := 101#32
  ![v2680.toNat, 101]
def k0_off110 (i : grid0.Coords) : Fin 2 → Nat :=
  let arg0 : BitVec 32 := BitVec.ofNat 32 (i 0).val
  let v2694 : Index := Scalar.indexCast arg0
  let c128_1962 : Index := 128#32
  ![v2694.toNat, 128]
def k0_off111 (i : grid0.Coords) : Fin 2 → Nat :=
  let arg0 : BitVec 32 := BitVec.ofNat 32 (i 0).val
  let v2708 : Index := Scalar.indexCast arg0
  let c154_1974 : Index := 154#32
  ![v2708.toNat, 154]
def k0_off112 (i : grid0.Coords) : Fin 2 → Nat :=
  let arg0 : BitVec 32 := BitVec.ofNat 32 (i 0).val
  let v2722 : Index := Scalar.indexCast arg0
  let c179_1986 : Index := 179#32
  ![v2722.toNat, 179]
def k0_off113 (i : grid0.Coords) : Fin 2 → Nat :=
  let arg0 : BitVec 32 := BitVec.ofNat 32 (i 0).val
  let v2736 : Index := Scalar.indexCast arg0
  let c203_1998 : Index := 203#32
  ![v2736.toNat, 203]
def k0_off114 (i : grid0.Coords) : Fin 2 → Nat :=
  let arg0 : BitVec 32 := BitVec.ofNat 32 (i 0).val
  let v2750 : Index := Scalar.indexCast arg0
  let c226_2010 : Index := 226#32
  ![v2750.toNat, 226]
def k0_off115 (i : grid0.Coords) : Fin 2 → Nat :=
  let arg0 : BitVec 32 := BitVec.ofNat 32 (i 0).val
  let v2764 : Index := Scalar.indexCast arg0
  let c248_2022 : Index := 248#32
  ![v2764.toNat, 248]
def k0_off116 (i : grid0.Coords) : Fin 2 → Nat :=
  let arg0 : BitVec 32 := BitVec.ofNat 32 (i 0).val
  let v2778 : Index := Scalar.indexCast arg0
  let c269_2034 : Index := 269#32
  ![v2778.toNat, 269]
def k0_off117 (i : grid0.Coords) : Fin 2 → Nat :=
  let arg0 : BitVec 32 := BitVec.ofNat 32 (i 0).val
  let v2792 : Index := Scalar.indexCast arg0
  let c289_2046 : Index := 289#32
  ![v2792.toNat, 289]
def k0_off118 (i : grid0.Coords) : Fin 2 → Nat :=
  let arg0 : BitVec 32 := BitVec.ofNat 32 (i 0).val
  let v2806 : Index := Scalar.indexCast arg0
  let c308_2058 : Index := 308#32
  ![v2806.toNat, 308]
def k0_off119 (i : grid0.Coords) : Fin 2 → Nat :=
  let arg0 : BitVec 32 := BitVec.ofNat 32 (i 0).val
  let v2820 : Index := Scalar.indexCast arg0
  let c326_2070 : Index := 326#32
  ![v2820.toNat, 326]
def k0_off120 (i : grid0.Coords) : Fin 2 → Nat :=
  let arg0 : BitVec 32 := BitVec.ofNat 32 (i 0).val
  let v2834 : Index := Scalar.indexCast arg0
  let c343_2082 : Index := 343#32
  ![v2834.toNat, 343]
def k0_off121 (i : grid0.Coords) : Fin 2 → Nat :=
  let arg0 : BitVec 32 := BitVec.ofNat 32 (i 0).val
  let v2925 : Index := Scalar.indexCast arg0
  let c15_2137 : Index := 15#32
  ![v2925.toNat, 15]
def k0_off122 (i : grid0.Coords) : Fin 2 → Nat :=
  let arg0 : BitVec 32 := BitVec.ofNat 32 (i 0).val
  let v2939 : Index := Scalar.indexCast arg0
  let c45_2149 : Index := 45#32
  ![v2939.toNat, 45]
def k0_off123 (i : grid0.Coords) : Fin 2 → Nat :=
  let arg0 : BitVec 32 := BitVec.ofNat 32 (i 0).val
  let v2953 : Index := Scalar.indexCast arg0
  let c74_2161 : Index := 74#32
  ![v2953.toNat, 74]
def k0_off124 (i : grid0.Coords) : Fin 2 → Nat :=
  let arg0 : BitVec 32 := BitVec.ofNat 32 (i 0).val
  let v2967 : Index := Scalar.indexCast arg0
  let c102_2173 : Index := 102#32
  ![v2967.toNat, 102]
def k0_off125 (i : grid0.Coords) : Fin 2 → Nat :=
  let arg0 : BitVec 32 := BitVec.ofNat 32 (i 0).val
  let v2981 : Index := Scalar.indexCast arg0
  let c129_2185 : Index := 129#32
  ![v2981.toNat, 129]
def k0_off126 (i : grid0.Coords) : Fin 2 → Nat :=
  let arg0 : BitVec 32 := BitVec.ofNat 32 (i 0).val
  let v2995 : Index := Scalar.indexCast arg0
  let c155_2197 : Index := 155#32
  ![v2995.toNat, 155]
def k0_off127 (i : grid0.Coords) : Fin 2 → Nat :=
  let arg0 : BitVec 32 := BitVec.ofNat 32 (i 0).val
  let v3009 : Index := Scalar.indexCast arg0
  let c180_2209 : Index := 180#32
  ![v3009.toNat, 180]
def k0_off128 (i : grid0.Coords) : Fin 2 → Nat :=
  let arg0 : BitVec 32 := BitVec.ofNat 32 (i 0).val
  let v3023 : Index := Scalar.indexCast arg0
  let c204_2221 : Index := 204#32
  ![v3023.toNat, 204]
def k0_off129 (i : grid0.Coords) : Fin 2 → Nat :=
  let arg0 : BitVec 32 := BitVec.ofNat 32 (i 0).val
  let v3037 : Index := Scalar.indexCast arg0
  let c227_2233 : Index := 227#32
  ![v3037.toNat, 227]
def k0_off130 (i : grid0.Coords) : Fin 2 → Nat :=
  let arg0 : BitVec 32 := BitVec.ofNat 32 (i 0).val
  let v3051 : Index := Scalar.indexCast arg0
  let c249_2245 : Index := 249#32
  ![v3051.toNat, 249]
def k0_off131 (i : grid0.Coords) : Fin 2 → Nat :=
  let arg0 : BitVec 32 := BitVec.ofNat 32 (i 0).val
  let v3065 : Index := Scalar.indexCast arg0
  let c270_2257 : Index := 270#32
  ![v3065.toNat, 270]
def k0_off132 (i : grid0.Coords) : Fin 2 → Nat :=
  let arg0 : BitVec 32 := BitVec.ofNat 32 (i 0).val
  let v3079 : Index := Scalar.indexCast arg0
  let c290_2269 : Index := 290#32
  ![v3079.toNat, 290]
def k0_off133 (i : grid0.Coords) : Fin 2 → Nat :=
  let arg0 : BitVec 32 := BitVec.ofNat 32 (i 0).val
  let v3093 : Index := Scalar.indexCast arg0
  let c309_2281 : Index := 309#32
  ![v3093.toNat, 309]
def k0_off134 (i : grid0.Coords) : Fin 2 → Nat :=
  let arg0 : BitVec 32 := BitVec.ofNat 32 (i 0).val
  let v3107 : Index := Scalar.indexCast arg0
  let c327_2293 : Index := 327#32
  ![v3107.toNat, 327]
def k0_off135 (i : grid0.Coords) : Fin 2 → Nat :=
  let arg0 : BitVec 32 := BitVec.ofNat 32 (i 0).val
  let v3121 : Index := Scalar.indexCast arg0
  let c344_2305 : Index := 344#32
  ![v3121.toNat, 344]
def k0_off136 (i : grid0.Coords) : Fin 2 → Nat :=
  let arg0 : BitVec 32 := BitVec.ofNat 32 (i 0).val
  let v3135 : Index := Scalar.indexCast arg0
  let c360_2317 : Index := 360#32
  ![v3135.toNat, 360]
def k0_off137 (i : grid0.Coords) : Fin 2 → Nat :=
  let arg0 : BitVec 32 := BitVec.ofNat 32 (i 0).val
  let v3226 : Index := Scalar.indexCast arg0
  let c16_2372 : Index := 16#32
  ![v3226.toNat, 16]
def k0_off138 (i : grid0.Coords) : Fin 2 → Nat :=
  let arg0 : BitVec 32 := BitVec.ofNat 32 (i 0).val
  let v3240 : Index := Scalar.indexCast arg0
  let c46_2384 : Index := 46#32
  ![v3240.toNat, 46]
def k0_off139 (i : grid0.Coords) : Fin 2 → Nat :=
  let arg0 : BitVec 32 := BitVec.ofNat 32 (i 0).val
  let v3254 : Index := Scalar.indexCast arg0
  let c75_2396 : Index := 75#32
  ![v3254.toNat, 75]
def k0_off140 (i : grid0.Coords) : Fin 2 → Nat :=
  let arg0 : BitVec 32 := BitVec.ofNat 32 (i 0).val
  let v3268 : Index := Scalar.indexCast arg0
  let c103_2408 : Index := 103#32
  ![v3268.toNat, 103]
def k0_off141 (i : grid0.Coords) : Fin 2 → Nat :=
  let arg0 : BitVec 32 := BitVec.ofNat 32 (i 0).val
  let v3282 : Index := Scalar.indexCast arg0
  let c130_2420 : Index := 130#32
  ![v3282.toNat, 130]
def k0_off142 (i : grid0.Coords) : Fin 2 → Nat :=
  let arg0 : BitVec 32 := BitVec.ofNat 32 (i 0).val
  let v3296 : Index := Scalar.indexCast arg0
  let c156_2432 : Index := 156#32
  ![v3296.toNat, 156]
def k0_off143 (i : grid0.Coords) : Fin 2 → Nat :=
  let arg0 : BitVec 32 := BitVec.ofNat 32 (i 0).val
  let v3310 : Index := Scalar.indexCast arg0
  let c181_2444 : Index := 181#32
  ![v3310.toNat, 181]
def k0_off144 (i : grid0.Coords) : Fin 2 → Nat :=
  let arg0 : BitVec 32 := BitVec.ofNat 32 (i 0).val
  let v3324 : Index := Scalar.indexCast arg0
  let c205_2456 : Index := 205#32
  ![v3324.toNat, 205]
def k0_off145 (i : grid0.Coords) : Fin 2 → Nat :=
  let arg0 : BitVec 32 := BitVec.ofNat 32 (i 0).val
  let v3338 : Index := Scalar.indexCast arg0
  let c228_2468 : Index := 228#32
  ![v3338.toNat, 228]
def k0_off146 (i : grid0.Coords) : Fin 2 → Nat :=
  let arg0 : BitVec 32 := BitVec.ofNat 32 (i 0).val
  let v3352 : Index := Scalar.indexCast arg0
  let c250_2480 : Index := 250#32
  ![v3352.toNat, 250]
def k0_off147 (i : grid0.Coords) : Fin 2 → Nat :=
  let arg0 : BitVec 32 := BitVec.ofNat 32 (i 0).val
  let v3366 : Index := Scalar.indexCast arg0
  let c271_2492 : Index := 271#32
  ![v3366.toNat, 271]
def k0_off148 (i : grid0.Coords) : Fin 2 → Nat :=
  let arg0 : BitVec 32 := BitVec.ofNat 32 (i 0).val
  let v3380 : Index := Scalar.indexCast arg0
  let c291_2504 : Index := 291#32
  ![v3380.toNat, 291]
def k0_off149 (i : grid0.Coords) : Fin 2 → Nat :=
  let arg0 : BitVec 32 := BitVec.ofNat 32 (i 0).val
  let v3394 : Index := Scalar.indexCast arg0
  let c310_2516 : Index := 310#32
  ![v3394.toNat, 310]
def k0_off150 (i : grid0.Coords) : Fin 2 → Nat :=
  let arg0 : BitVec 32 := BitVec.ofNat 32 (i 0).val
  let v3408 : Index := Scalar.indexCast arg0
  let c328_2528 : Index := 328#32
  ![v3408.toNat, 328]
def k0_off151 (i : grid0.Coords) : Fin 2 → Nat :=
  let arg0 : BitVec 32 := BitVec.ofNat 32 (i 0).val
  let v3422 : Index := Scalar.indexCast arg0
  let c345_2540 : Index := 345#32
  ![v3422.toNat, 345]
def k0_off152 (i : grid0.Coords) : Fin 2 → Nat :=
  let arg0 : BitVec 32 := BitVec.ofNat 32 (i 0).val
  let v3436 : Index := Scalar.indexCast arg0
  let c361_2552 : Index := 361#32
  ![v3436.toNat, 361]
def k0_off153 (i : grid0.Coords) : Fin 2 → Nat :=
  let arg0 : BitVec 32 := BitVec.ofNat 32 (i 0).val
  let v3450 : Index := Scalar.indexCast arg0
  let c376_2564 : Index := 376#32
  ![v3450.toNat, 376]
def k0_off154 (i : grid0.Coords) : Fin 2 → Nat :=
  let arg0 : BitVec 32 := BitVec.ofNat 32 (i 0).val
  let v3541 : Index := Scalar.indexCast arg0
  let c17_2619 : Index := 17#32
  ![v3541.toNat, 17]
def k0_off155 (i : grid0.Coords) : Fin 2 → Nat :=
  let arg0 : BitVec 32 := BitVec.ofNat 32 (i 0).val
  let v3555 : Index := Scalar.indexCast arg0
  let c47_2631 : Index := 47#32
  ![v3555.toNat, 47]
def k0_off156 (i : grid0.Coords) : Fin 2 → Nat :=
  let arg0 : BitVec 32 := BitVec.ofNat 32 (i 0).val
  let v3569 : Index := Scalar.indexCast arg0
  let c76_2643 : Index := 76#32
  ![v3569.toNat, 76]
def k0_off157 (i : grid0.Coords) : Fin 2 → Nat :=
  let arg0 : BitVec 32 := BitVec.ofNat 32 (i 0).val
  let v3583 : Index := Scalar.indexCast arg0
  let c104_2655 : Index := 104#32
  ![v3583.toNat, 104]
def k0_off158 (i : grid0.Coords) : Fin 2 → Nat :=
  let arg0 : BitVec 32 := BitVec.ofNat 32 (i 0).val
  let v3597 : Index := Scalar.indexCast arg0
  let c131_2667 : Index := 131#32
  ![v3597.toNat, 131]
def k0_off159 (i : grid0.Coords) : Fin 2 → Nat :=
  let arg0 : BitVec 32 := BitVec.ofNat 32 (i 0).val
  let v3611 : Index := Scalar.indexCast arg0
  let c157_2679 : Index := 157#32
  ![v3611.toNat, 157]
def k0_off160 (i : grid0.Coords) : Fin 2 → Nat :=
  let arg0 : BitVec 32 := BitVec.ofNat 32 (i 0).val
  let v3625 : Index := Scalar.indexCast arg0
  let c182_2691 : Index := 182#32
  ![v3625.toNat, 182]
def k0_off161 (i : grid0.Coords) : Fin 2 → Nat :=
  let arg0 : BitVec 32 := BitVec.ofNat 32 (i 0).val
  let v3639 : Index := Scalar.indexCast arg0
  let c206_2703 : Index := 206#32
  ![v3639.toNat, 206]
def k0_off162 (i : grid0.Coords) : Fin 2 → Nat :=
  let arg0 : BitVec 32 := BitVec.ofNat 32 (i 0).val
  let v3653 : Index := Scalar.indexCast arg0
  let c229_2715 : Index := 229#32
  ![v3653.toNat, 229]
def k0_off163 (i : grid0.Coords) : Fin 2 → Nat :=
  let arg0 : BitVec 32 := BitVec.ofNat 32 (i 0).val
  let v3667 : Index := Scalar.indexCast arg0
  let c251_2727 : Index := 251#32
  ![v3667.toNat, 251]
def k0_off164 (i : grid0.Coords) : Fin 2 → Nat :=
  let arg0 : BitVec 32 := BitVec.ofNat 32 (i 0).val
  let v3681 : Index := Scalar.indexCast arg0
  let c272_2739 : Index := 272#32
  ![v3681.toNat, 272]
def k0_off165 (i : grid0.Coords) : Fin 2 → Nat :=
  let arg0 : BitVec 32 := BitVec.ofNat 32 (i 0).val
  let v3695 : Index := Scalar.indexCast arg0
  let c292_2751 : Index := 292#32
  ![v3695.toNat, 292]
def k0_off166 (i : grid0.Coords) : Fin 2 → Nat :=
  let arg0 : BitVec 32 := BitVec.ofNat 32 (i 0).val
  let v3709 : Index := Scalar.indexCast arg0
  let c311_2763 : Index := 311#32
  ![v3709.toNat, 311]
def k0_off167 (i : grid0.Coords) : Fin 2 → Nat :=
  let arg0 : BitVec 32 := BitVec.ofNat 32 (i 0).val
  let v3723 : Index := Scalar.indexCast arg0
  let c329_2775 : Index := 329#32
  ![v3723.toNat, 329]
def k0_off168 (i : grid0.Coords) : Fin 2 → Nat :=
  let arg0 : BitVec 32 := BitVec.ofNat 32 (i 0).val
  let v3737 : Index := Scalar.indexCast arg0
  let c346_2787 : Index := 346#32
  ![v3737.toNat, 346]
def k0_off169 (i : grid0.Coords) : Fin 2 → Nat :=
  let arg0 : BitVec 32 := BitVec.ofNat 32 (i 0).val
  let v3751 : Index := Scalar.indexCast arg0
  let c362_2799 : Index := 362#32
  ![v3751.toNat, 362]
def k0_off170 (i : grid0.Coords) : Fin 2 → Nat :=
  let arg0 : BitVec 32 := BitVec.ofNat 32 (i 0).val
  let v3765 : Index := Scalar.indexCast arg0
  let c377_2811 : Index := 377#32
  ![v3765.toNat, 377]
def k0_off171 (i : grid0.Coords) : Fin 2 → Nat :=
  let arg0 : BitVec 32 := BitVec.ofNat 32 (i 0).val
  let v3779 : Index := Scalar.indexCast arg0
  let c391_2823 : Index := 391#32
  ![v3779.toNat, 391]
def k0_off172 (i : grid0.Coords) : Fin 2 → Nat :=
  let arg0 : BitVec 32 := BitVec.ofNat 32 (i 0).val
  let v3870 : Index := Scalar.indexCast arg0
  let c18_2878 : Index := 18#32
  ![v3870.toNat, 18]
def k0_off173 (i : grid0.Coords) : Fin 2 → Nat :=
  let arg0 : BitVec 32 := BitVec.ofNat 32 (i 0).val
  let v3884 : Index := Scalar.indexCast arg0
  let c48_2890 : Index := 48#32
  ![v3884.toNat, 48]
def k0_off174 (i : grid0.Coords) : Fin 2 → Nat :=
  let arg0 : BitVec 32 := BitVec.ofNat 32 (i 0).val
  let v3898 : Index := Scalar.indexCast arg0
  let c77_2902 : Index := 77#32
  ![v3898.toNat, 77]
def k0_off175 (i : grid0.Coords) : Fin 2 → Nat :=
  let arg0 : BitVec 32 := BitVec.ofNat 32 (i 0).val
  let v3912 : Index := Scalar.indexCast arg0
  let c105_2914 : Index := 105#32
  ![v3912.toNat, 105]
def k0_off176 (i : grid0.Coords) : Fin 2 → Nat :=
  let arg0 : BitVec 32 := BitVec.ofNat 32 (i 0).val
  let v3926 : Index := Scalar.indexCast arg0
  let c132_2926 : Index := 132#32
  ![v3926.toNat, 132]
def k0_off177 (i : grid0.Coords) : Fin 2 → Nat :=
  let arg0 : BitVec 32 := BitVec.ofNat 32 (i 0).val
  let v3940 : Index := Scalar.indexCast arg0
  let c158_2938 : Index := 158#32
  ![v3940.toNat, 158]
def k0_off178 (i : grid0.Coords) : Fin 2 → Nat :=
  let arg0 : BitVec 32 := BitVec.ofNat 32 (i 0).val
  let v3954 : Index := Scalar.indexCast arg0
  let c183_2950 : Index := 183#32
  ![v3954.toNat, 183]
def k0_off179 (i : grid0.Coords) : Fin 2 → Nat :=
  let arg0 : BitVec 32 := BitVec.ofNat 32 (i 0).val
  let v3968 : Index := Scalar.indexCast arg0
  let c207_2962 : Index := 207#32
  ![v3968.toNat, 207]
def k0_off180 (i : grid0.Coords) : Fin 2 → Nat :=
  let arg0 : BitVec 32 := BitVec.ofNat 32 (i 0).val
  let v3982 : Index := Scalar.indexCast arg0
  let c230_2974 : Index := 230#32
  ![v3982.toNat, 230]
def k0_off181 (i : grid0.Coords) : Fin 2 → Nat :=
  let arg0 : BitVec 32 := BitVec.ofNat 32 (i 0).val
  let v3996 : Index := Scalar.indexCast arg0
  let c252_2986 : Index := 252#32
  ![v3996.toNat, 252]
def k0_off182 (i : grid0.Coords) : Fin 2 → Nat :=
  let arg0 : BitVec 32 := BitVec.ofNat 32 (i 0).val
  let v4010 : Index := Scalar.indexCast arg0
  let c273_2998 : Index := 273#32
  ![v4010.toNat, 273]
def k0_off183 (i : grid0.Coords) : Fin 2 → Nat :=
  let arg0 : BitVec 32 := BitVec.ofNat 32 (i 0).val
  let v4024 : Index := Scalar.indexCast arg0
  let c293_3010 : Index := 293#32
  ![v4024.toNat, 293]
def k0_off184 (i : grid0.Coords) : Fin 2 → Nat :=
  let arg0 : BitVec 32 := BitVec.ofNat 32 (i 0).val
  let v4038 : Index := Scalar.indexCast arg0
  let c312_3022 : Index := 312#32
  ![v4038.toNat, 312]
def k0_off185 (i : grid0.Coords) : Fin 2 → Nat :=
  let arg0 : BitVec 32 := BitVec.ofNat 32 (i 0).val
  let v4052 : Index := Scalar.indexCast arg0
  let c330_3034 : Index := 330#32
  ![v4052.toNat, 330]
def k0_off186 (i : grid0.Coords) : Fin 2 → Nat :=
  let arg0 : BitVec 32 := BitVec.ofNat 32 (i 0).val
  let v4066 : Index := Scalar.indexCast arg0
  let c347_3046 : Index := 347#32
  ![v4066.toNat, 347]
def k0_off187 (i : grid0.Coords) : Fin 2 → Nat :=
  let arg0 : BitVec 32 := BitVec.ofNat 32 (i 0).val
  let v4080 : Index := Scalar.indexCast arg0
  let c363_3058 : Index := 363#32
  ![v4080.toNat, 363]
def k0_off188 (i : grid0.Coords) : Fin 2 → Nat :=
  let arg0 : BitVec 32 := BitVec.ofNat 32 (i 0).val
  let v4094 : Index := Scalar.indexCast arg0
  let c378_3070 : Index := 378#32
  ![v4094.toNat, 378]
def k0_off189 (i : grid0.Coords) : Fin 2 → Nat :=
  let arg0 : BitVec 32 := BitVec.ofNat 32 (i 0).val
  let v4108 : Index := Scalar.indexCast arg0
  let c392_3082 : Index := 392#32
  ![v4108.toNat, 392]
def k0_off190 (i : grid0.Coords) : Fin 2 → Nat :=
  let arg0 : BitVec 32 := BitVec.ofNat 32 (i 0).val
  let v4122 : Index := Scalar.indexCast arg0
  let c405_3094 : Index := 405#32
  ![v4122.toNat, 405]
def k0_off191 (i : grid0.Coords) : Fin 2 → Nat :=
  let arg0 : BitVec 32 := BitVec.ofNat 32 (i 0).val
  let v4213 : Index := Scalar.indexCast arg0
  let c19_3149 : Index := 19#32
  ![v4213.toNat, 19]
def k0_off192 (i : grid0.Coords) : Fin 2 → Nat :=
  let arg0 : BitVec 32 := BitVec.ofNat 32 (i 0).val
  let v4227 : Index := Scalar.indexCast arg0
  let c49_3161 : Index := 49#32
  ![v4227.toNat, 49]
def k0_off193 (i : grid0.Coords) : Fin 2 → Nat :=
  let arg0 : BitVec 32 := BitVec.ofNat 32 (i 0).val
  let v4241 : Index := Scalar.indexCast arg0
  let c78_3173 : Index := 78#32
  ![v4241.toNat, 78]
def k0_off194 (i : grid0.Coords) : Fin 2 → Nat :=
  let arg0 : BitVec 32 := BitVec.ofNat 32 (i 0).val
  let v4255 : Index := Scalar.indexCast arg0
  let c106_3185 : Index := 106#32
  ![v4255.toNat, 106]
def k0_off195 (i : grid0.Coords) : Fin 2 → Nat :=
  let arg0 : BitVec 32 := BitVec.ofNat 32 (i 0).val
  let v4269 : Index := Scalar.indexCast arg0
  let c133_3197 : Index := 133#32
  ![v4269.toNat, 133]
def k0_off196 (i : grid0.Coords) : Fin 2 → Nat :=
  let arg0 : BitVec 32 := BitVec.ofNat 32 (i 0).val
  let v4283 : Index := Scalar.indexCast arg0
  let c159_3209 : Index := 159#32
  ![v4283.toNat, 159]
def k0_off197 (i : grid0.Coords) : Fin 2 → Nat :=
  let arg0 : BitVec 32 := BitVec.ofNat 32 (i 0).val
  let v4297 : Index := Scalar.indexCast arg0
  let c184_3221 : Index := 184#32
  ![v4297.toNat, 184]
def k0_off198 (i : grid0.Coords) : Fin 2 → Nat :=
  let arg0 : BitVec 32 := BitVec.ofNat 32 (i 0).val
  let v4311 : Index := Scalar.indexCast arg0
  let c208_3233 : Index := 208#32
  ![v4311.toNat, 208]
def k0_off199 (i : grid0.Coords) : Fin 2 → Nat :=
  let arg0 : BitVec 32 := BitVec.ofNat 32 (i 0).val
  let v4325 : Index := Scalar.indexCast arg0
  let c231_3245 : Index := 231#32
  ![v4325.toNat, 231]
def k0_off200 (i : grid0.Coords) : Fin 2 → Nat :=
  let arg0 : BitVec 32 := BitVec.ofNat 32 (i 0).val
  let v4339 : Index := Scalar.indexCast arg0
  let c253_3257 : Index := 253#32
  ![v4339.toNat, 253]
def k0_off201 (i : grid0.Coords) : Fin 2 → Nat :=
  let arg0 : BitVec 32 := BitVec.ofNat 32 (i 0).val
  let v4353 : Index := Scalar.indexCast arg0
  let c274_3269 : Index := 274#32
  ![v4353.toNat, 274]
def k0_off202 (i : grid0.Coords) : Fin 2 → Nat :=
  let arg0 : BitVec 32 := BitVec.ofNat 32 (i 0).val
  let v4367 : Index := Scalar.indexCast arg0
  let c294_3281 : Index := 294#32
  ![v4367.toNat, 294]
def k0_off203 (i : grid0.Coords) : Fin 2 → Nat :=
  let arg0 : BitVec 32 := BitVec.ofNat 32 (i 0).val
  let v4381 : Index := Scalar.indexCast arg0
  let c313_3293 : Index := 313#32
  ![v4381.toNat, 313]
def k0_off204 (i : grid0.Coords) : Fin 2 → Nat :=
  let arg0 : BitVec 32 := BitVec.ofNat 32 (i 0).val
  let v4395 : Index := Scalar.indexCast arg0
  let c331_3305 : Index := 331#32
  ![v4395.toNat, 331]
def k0_off205 (i : grid0.Coords) : Fin 2 → Nat :=
  let arg0 : BitVec 32 := BitVec.ofNat 32 (i 0).val
  let v4409 : Index := Scalar.indexCast arg0
  let c348_3317 : Index := 348#32
  ![v4409.toNat, 348]
def k0_off206 (i : grid0.Coords) : Fin 2 → Nat :=
  let arg0 : BitVec 32 := BitVec.ofNat 32 (i 0).val
  let v4423 : Index := Scalar.indexCast arg0
  let c364_3329 : Index := 364#32
  ![v4423.toNat, 364]
def k0_off207 (i : grid0.Coords) : Fin 2 → Nat :=
  let arg0 : BitVec 32 := BitVec.ofNat 32 (i 0).val
  let v4437 : Index := Scalar.indexCast arg0
  let c379_3341 : Index := 379#32
  ![v4437.toNat, 379]
def k0_off208 (i : grid0.Coords) : Fin 2 → Nat :=
  let arg0 : BitVec 32 := BitVec.ofNat 32 (i 0).val
  let v4451 : Index := Scalar.indexCast arg0
  let c393_3353 : Index := 393#32
  ![v4451.toNat, 393]
def k0_off209 (i : grid0.Coords) : Fin 2 → Nat :=
  let arg0 : BitVec 32 := BitVec.ofNat 32 (i 0).val
  let v4465 : Index := Scalar.indexCast arg0
  let c406_3365 : Index := 406#32
  ![v4465.toNat, 406]
def k0_off210 (i : grid0.Coords) : Fin 2 → Nat :=
  let arg0 : BitVec 32 := BitVec.ofNat 32 (i 0).val
  let v4479 : Index := Scalar.indexCast arg0
  let c418_3377 : Index := 418#32
  ![v4479.toNat, 418]
def k0_off211 (i : grid0.Coords) : Fin 2 → Nat :=
  let arg0 : BitVec 32 := BitVec.ofNat 32 (i 0).val
  let v4570 : Index := Scalar.indexCast arg0
  let c20_3432 : Index := 20#32
  ![v4570.toNat, 20]
def k0_off212 (i : grid0.Coords) : Fin 2 → Nat :=
  let arg0 : BitVec 32 := BitVec.ofNat 32 (i 0).val
  let v4584 : Index := Scalar.indexCast arg0
  let c50_3444 : Index := 50#32
  ![v4584.toNat, 50]
def k0_off213 (i : grid0.Coords) : Fin 2 → Nat :=
  let arg0 : BitVec 32 := BitVec.ofNat 32 (i 0).val
  let v4598 : Index := Scalar.indexCast arg0
  let c79_3456 : Index := 79#32
  ![v4598.toNat, 79]
def k0_off214 (i : grid0.Coords) : Fin 2 → Nat :=
  let arg0 : BitVec 32 := BitVec.ofNat 32 (i 0).val
  let v4612 : Index := Scalar.indexCast arg0
  let c107_3468 : Index := 107#32
  ![v4612.toNat, 107]
def k0_off215 (i : grid0.Coords) : Fin 2 → Nat :=
  let arg0 : BitVec 32 := BitVec.ofNat 32 (i 0).val
  let v4626 : Index := Scalar.indexCast arg0
  let c134_3480 : Index := 134#32
  ![v4626.toNat, 134]
def k0_off216 (i : grid0.Coords) : Fin 2 → Nat :=
  let arg0 : BitVec 32 := BitVec.ofNat 32 (i 0).val
  let v4640 : Index := Scalar.indexCast arg0
  let c160_3492 : Index := 160#32
  ![v4640.toNat, 160]
def k0_off217 (i : grid0.Coords) : Fin 2 → Nat :=
  let arg0 : BitVec 32 := BitVec.ofNat 32 (i 0).val
  let v4654 : Index := Scalar.indexCast arg0
  let c185_3504 : Index := 185#32
  ![v4654.toNat, 185]
def k0_off218 (i : grid0.Coords) : Fin 2 → Nat :=
  let arg0 : BitVec 32 := BitVec.ofNat 32 (i 0).val
  let v4668 : Index := Scalar.indexCast arg0
  let c209_3516 : Index := 209#32
  ![v4668.toNat, 209]
def k0_off219 (i : grid0.Coords) : Fin 2 → Nat :=
  let arg0 : BitVec 32 := BitVec.ofNat 32 (i 0).val
  let v4682 : Index := Scalar.indexCast arg0
  let c232_3528 : Index := 232#32
  ![v4682.toNat, 232]
def k0_off220 (i : grid0.Coords) : Fin 2 → Nat :=
  let arg0 : BitVec 32 := BitVec.ofNat 32 (i 0).val
  let v4696 : Index := Scalar.indexCast arg0
  let c254_3540 : Index := 254#32
  ![v4696.toNat, 254]
def k0_off221 (i : grid0.Coords) : Fin 2 → Nat :=
  let arg0 : BitVec 32 := BitVec.ofNat 32 (i 0).val
  let v4710 : Index := Scalar.indexCast arg0
  let c275_3552 : Index := 275#32
  ![v4710.toNat, 275]
def k0_off222 (i : grid0.Coords) : Fin 2 → Nat :=
  let arg0 : BitVec 32 := BitVec.ofNat 32 (i 0).val
  let v4724 : Index := Scalar.indexCast arg0
  let c295_3564 : Index := 295#32
  ![v4724.toNat, 295]
def k0_off223 (i : grid0.Coords) : Fin 2 → Nat :=
  let arg0 : BitVec 32 := BitVec.ofNat 32 (i 0).val
  let v4738 : Index := Scalar.indexCast arg0
  let c314_3576 : Index := 314#32
  ![v4738.toNat, 314]
def k0_off224 (i : grid0.Coords) : Fin 2 → Nat :=
  let arg0 : BitVec 32 := BitVec.ofNat 32 (i 0).val
  let v4752 : Index := Scalar.indexCast arg0
  let c332_3588 : Index := 332#32
  ![v4752.toNat, 332]
def k0_off225 (i : grid0.Coords) : Fin 2 → Nat :=
  let arg0 : BitVec 32 := BitVec.ofNat 32 (i 0).val
  let v4766 : Index := Scalar.indexCast arg0
  let c349_3600 : Index := 349#32
  ![v4766.toNat, 349]
def k0_off226 (i : grid0.Coords) : Fin 2 → Nat :=
  let arg0 : BitVec 32 := BitVec.ofNat 32 (i 0).val
  let v4780 : Index := Scalar.indexCast arg0
  let c365_3612 : Index := 365#32
  ![v4780.toNat, 365]
def k0_off227 (i : grid0.Coords) : Fin 2 → Nat :=
  let arg0 : BitVec 32 := BitVec.ofNat 32 (i 0).val
  let v4794 : Index := Scalar.indexCast arg0
  let c380_3624 : Index := 380#32
  ![v4794.toNat, 380]
def k0_off228 (i : grid0.Coords) : Fin 2 → Nat :=
  let arg0 : BitVec 32 := BitVec.ofNat 32 (i 0).val
  let v4808 : Index := Scalar.indexCast arg0
  let c394_3636 : Index := 394#32
  ![v4808.toNat, 394]
def k0_off229 (i : grid0.Coords) : Fin 2 → Nat :=
  let arg0 : BitVec 32 := BitVec.ofNat 32 (i 0).val
  let v4822 : Index := Scalar.indexCast arg0
  let c407_3648 : Index := 407#32
  ![v4822.toNat, 407]
def k0_off230 (i : grid0.Coords) : Fin 2 → Nat :=
  let arg0 : BitVec 32 := BitVec.ofNat 32 (i 0).val
  let v4836 : Index := Scalar.indexCast arg0
  let c419_3660 : Index := 419#32
  ![v4836.toNat, 419]
def k0_off231 (i : grid0.Coords) : Fin 2 → Nat :=
  let arg0 : BitVec 32 := BitVec.ofNat 32 (i 0).val
  let v4850 : Index := Scalar.indexCast arg0
  let c430_3672 : Index := 430#32
  ![v4850.toNat, 430]
def k0_off232 (i : grid0.Coords) : Fin 2 → Nat :=
  let arg0 : BitVec 32 := BitVec.ofNat 32 (i 0).val
  let v4941 : Index := Scalar.indexCast arg0
  let c21_3727 : Index := 21#32
  ![v4941.toNat, 21]
def k0_off233 (i : grid0.Coords) : Fin 2 → Nat :=
  let arg0 : BitVec 32 := BitVec.ofNat 32 (i 0).val
  let v4955 : Index := Scalar.indexCast arg0
  let c51_3739 : Index := 51#32
  ![v4955.toNat, 51]
def k0_off234 (i : grid0.Coords) : Fin 2 → Nat :=
  let arg0 : BitVec 32 := BitVec.ofNat 32 (i 0).val
  let v4969 : Index := Scalar.indexCast arg0
  let c80_3751 : Index := 80#32
  ![v4969.toNat, 80]
def k0_off235 (i : grid0.Coords) : Fin 2 → Nat :=
  let arg0 : BitVec 32 := BitVec.ofNat 32 (i 0).val
  let v4983 : Index := Scalar.indexCast arg0
  let c108_3763 : Index := 108#32
  ![v4983.toNat, 108]
def k0_off236 (i : grid0.Coords) : Fin 2 → Nat :=
  let arg0 : BitVec 32 := BitVec.ofNat 32 (i 0).val
  let v4997 : Index := Scalar.indexCast arg0
  let c135_3775 : Index := 135#32
  ![v4997.toNat, 135]
def k0_off237 (i : grid0.Coords) : Fin 2 → Nat :=
  let arg0 : BitVec 32 := BitVec.ofNat 32 (i 0).val
  let v5011 : Index := Scalar.indexCast arg0
  let c161_3787 : Index := 161#32
  ![v5011.toNat, 161]
def k0_off238 (i : grid0.Coords) : Fin 2 → Nat :=
  let arg0 : BitVec 32 := BitVec.ofNat 32 (i 0).val
  let v5025 : Index := Scalar.indexCast arg0
  let c186_3799 : Index := 186#32
  ![v5025.toNat, 186]
def k0_off239 (i : grid0.Coords) : Fin 2 → Nat :=
  let arg0 : BitVec 32 := BitVec.ofNat 32 (i 0).val
  let v5039 : Index := Scalar.indexCast arg0
  let c210_3811 : Index := 210#32
  ![v5039.toNat, 210]
def k0_off240 (i : grid0.Coords) : Fin 2 → Nat :=
  let arg0 : BitVec 32 := BitVec.ofNat 32 (i 0).val
  let v5053 : Index := Scalar.indexCast arg0
  let c233_3823 : Index := 233#32
  ![v5053.toNat, 233]
def k0_off241 (i : grid0.Coords) : Fin 2 → Nat :=
  let arg0 : BitVec 32 := BitVec.ofNat 32 (i 0).val
  let v5067 : Index := Scalar.indexCast arg0
  let c255_3835 : Index := 255#32
  ![v5067.toNat, 255]
def k0_off242 (i : grid0.Coords) : Fin 2 → Nat :=
  let arg0 : BitVec 32 := BitVec.ofNat 32 (i 0).val
  let v5081 : Index := Scalar.indexCast arg0
  let c276_3847 : Index := 276#32
  ![v5081.toNat, 276]
def k0_off243 (i : grid0.Coords) : Fin 2 → Nat :=
  let arg0 : BitVec 32 := BitVec.ofNat 32 (i 0).val
  let v5095 : Index := Scalar.indexCast arg0
  let c296_3859 : Index := 296#32
  ![v5095.toNat, 296]
def k0_off244 (i : grid0.Coords) : Fin 2 → Nat :=
  let arg0 : BitVec 32 := BitVec.ofNat 32 (i 0).val
  let v5109 : Index := Scalar.indexCast arg0
  let c315_3871 : Index := 315#32
  ![v5109.toNat, 315]
def k0_off245 (i : grid0.Coords) : Fin 2 → Nat :=
  let arg0 : BitVec 32 := BitVec.ofNat 32 (i 0).val
  let v5123 : Index := Scalar.indexCast arg0
  let c333_3883 : Index := 333#32
  ![v5123.toNat, 333]
def k0_off246 (i : grid0.Coords) : Fin 2 → Nat :=
  let arg0 : BitVec 32 := BitVec.ofNat 32 (i 0).val
  let v5137 : Index := Scalar.indexCast arg0
  let c350_3895 : Index := 350#32
  ![v5137.toNat, 350]
def k0_off247 (i : grid0.Coords) : Fin 2 → Nat :=
  let arg0 : BitVec 32 := BitVec.ofNat 32 (i 0).val
  let v5151 : Index := Scalar.indexCast arg0
  let c366_3907 : Index := 366#32
  ![v5151.toNat, 366]
def k0_off248 (i : grid0.Coords) : Fin 2 → Nat :=
  let arg0 : BitVec 32 := BitVec.ofNat 32 (i 0).val
  let v5165 : Index := Scalar.indexCast arg0
  let c381_3919 : Index := 381#32
  ![v5165.toNat, 381]
def k0_off249 (i : grid0.Coords) : Fin 2 → Nat :=
  let arg0 : BitVec 32 := BitVec.ofNat 32 (i 0).val
  let v5179 : Index := Scalar.indexCast arg0
  let c395_3931 : Index := 395#32
  ![v5179.toNat, 395]
def k0_off250 (i : grid0.Coords) : Fin 2 → Nat :=
  let arg0 : BitVec 32 := BitVec.ofNat 32 (i 0).val
  let v5193 : Index := Scalar.indexCast arg0
  let c408_3943 : Index := 408#32
  ![v5193.toNat, 408]
def k0_off251 (i : grid0.Coords) : Fin 2 → Nat :=
  let arg0 : BitVec 32 := BitVec.ofNat 32 (i 0).val
  let v5207 : Index := Scalar.indexCast arg0
  let c420_3955 : Index := 420#32
  ![v5207.toNat, 420]
def k0_off252 (i : grid0.Coords) : Fin 2 → Nat :=
  let arg0 : BitVec 32 := BitVec.ofNat 32 (i 0).val
  let v5221 : Index := Scalar.indexCast arg0
  let c431_3967 : Index := 431#32
  ![v5221.toNat, 431]
def k0_off253 (i : grid0.Coords) : Fin 2 → Nat :=
  let arg0 : BitVec 32 := BitVec.ofNat 32 (i 0).val
  let v5235 : Index := Scalar.indexCast arg0
  let c441_3979 : Index := 441#32
  ![v5235.toNat, 441]
def k0_off254 (i : grid0.Coords) : Fin 2 → Nat :=
  let arg0 : BitVec 32 := BitVec.ofNat 32 (i 0).val
  let v5326 : Index := Scalar.indexCast arg0
  let c22_4034 : Index := 22#32
  ![v5326.toNat, 22]
def k0_off255 (i : grid0.Coords) : Fin 2 → Nat :=
  let arg0 : BitVec 32 := BitVec.ofNat 32 (i 0).val
  let v5340 : Index := Scalar.indexCast arg0
  let c52_4046 : Index := 52#32
  ![v5340.toNat, 52]
def k0_off256 (i : grid0.Coords) : Fin 2 → Nat :=
  let arg0 : BitVec 32 := BitVec.ofNat 32 (i 0).val
  let v5354 : Index := Scalar.indexCast arg0
  let c81_4058 : Index := 81#32
  ![v5354.toNat, 81]
def k0_off257 (i : grid0.Coords) : Fin 2 → Nat :=
  let arg0 : BitVec 32 := BitVec.ofNat 32 (i 0).val
  let v5368 : Index := Scalar.indexCast arg0
  let c109_4070 : Index := 109#32
  ![v5368.toNat, 109]
def k0_off258 (i : grid0.Coords) : Fin 2 → Nat :=
  let arg0 : BitVec 32 := BitVec.ofNat 32 (i 0).val
  let v5382 : Index := Scalar.indexCast arg0
  let c136_4082 : Index := 136#32
  ![v5382.toNat, 136]
def k0_off259 (i : grid0.Coords) : Fin 2 → Nat :=
  let arg0 : BitVec 32 := BitVec.ofNat 32 (i 0).val
  let v5396 : Index := Scalar.indexCast arg0
  let c162_4094 : Index := 162#32
  ![v5396.toNat, 162]
def k0_off260 (i : grid0.Coords) : Fin 2 → Nat :=
  let arg0 : BitVec 32 := BitVec.ofNat 32 (i 0).val
  let v5410 : Index := Scalar.indexCast arg0
  let c187_4106 : Index := 187#32
  ![v5410.toNat, 187]
def k0_off261 (i : grid0.Coords) : Fin 2 → Nat :=
  let arg0 : BitVec 32 := BitVec.ofNat 32 (i 0).val
  let v5424 : Index := Scalar.indexCast arg0
  let c211_4118 : Index := 211#32
  ![v5424.toNat, 211]
def k0_off262 (i : grid0.Coords) : Fin 2 → Nat :=
  let arg0 : BitVec 32 := BitVec.ofNat 32 (i 0).val
  let v5438 : Index := Scalar.indexCast arg0
  let c234_4130 : Index := 234#32
  ![v5438.toNat, 234]
def k0_off263 (i : grid0.Coords) : Fin 2 → Nat :=
  let arg0 : BitVec 32 := BitVec.ofNat 32 (i 0).val
  let v5452 : Index := Scalar.indexCast arg0
  let c256_4143 : Index := 256#32
  ![v5452.toNat, 256]
def k0_off264 (i : grid0.Coords) : Fin 2 → Nat :=
  let arg0 : BitVec 32 := BitVec.ofNat 32 (i 0).val
  let v5466 : Index := Scalar.indexCast arg0
  let c277_4155 : Index := 277#32
  ![v5466.toNat, 277]
def k0_off265 (i : grid0.Coords) : Fin 2 → Nat :=
  let arg0 : BitVec 32 := BitVec.ofNat 32 (i 0).val
  let v5480 : Index := Scalar.indexCast arg0
  let c297_4167 : Index := 297#32
  ![v5480.toNat, 297]
def k0_off266 (i : grid0.Coords) : Fin 2 → Nat :=
  let arg0 : BitVec 32 := BitVec.ofNat 32 (i 0).val
  let v5494 : Index := Scalar.indexCast arg0
  let c316_4179 : Index := 316#32
  ![v5494.toNat, 316]
def k0_off267 (i : grid0.Coords) : Fin 2 → Nat :=
  let arg0 : BitVec 32 := BitVec.ofNat 32 (i 0).val
  let v5508 : Index := Scalar.indexCast arg0
  let c334_4191 : Index := 334#32
  ![v5508.toNat, 334]
def k0_off268 (i : grid0.Coords) : Fin 2 → Nat :=
  let arg0 : BitVec 32 := BitVec.ofNat 32 (i 0).val
  let v5522 : Index := Scalar.indexCast arg0
  let c351_4203 : Index := 351#32
  ![v5522.toNat, 351]
def k0_off269 (i : grid0.Coords) : Fin 2 → Nat :=
  let arg0 : BitVec 32 := BitVec.ofNat 32 (i 0).val
  let v5536 : Index := Scalar.indexCast arg0
  let c367_4215 : Index := 367#32
  ![v5536.toNat, 367]
def k0_off270 (i : grid0.Coords) : Fin 2 → Nat :=
  let arg0 : BitVec 32 := BitVec.ofNat 32 (i 0).val
  let v5550 : Index := Scalar.indexCast arg0
  let c382_4227 : Index := 382#32
  ![v5550.toNat, 382]
def k0_off271 (i : grid0.Coords) : Fin 2 → Nat :=
  let arg0 : BitVec 32 := BitVec.ofNat 32 (i 0).val
  let v5564 : Index := Scalar.indexCast arg0
  let c396_4239 : Index := 396#32
  ![v5564.toNat, 396]
def k0_off272 (i : grid0.Coords) : Fin 2 → Nat :=
  let arg0 : BitVec 32 := BitVec.ofNat 32 (i 0).val
  let v5578 : Index := Scalar.indexCast arg0
  let c409_4251 : Index := 409#32
  ![v5578.toNat, 409]
def k0_off273 (i : grid0.Coords) : Fin 2 → Nat :=
  let arg0 : BitVec 32 := BitVec.ofNat 32 (i 0).val
  let v5592 : Index := Scalar.indexCast arg0
  let c421_4263 : Index := 421#32
  ![v5592.toNat, 421]
def k0_off274 (i : grid0.Coords) : Fin 2 → Nat :=
  let arg0 : BitVec 32 := BitVec.ofNat 32 (i 0).val
  let v5606 : Index := Scalar.indexCast arg0
  let c432_4275 : Index := 432#32
  ![v5606.toNat, 432]
def k0_off275 (i : grid0.Coords) : Fin 2 → Nat :=
  let arg0 : BitVec 32 := BitVec.ofNat 32 (i 0).val
  let v5620 : Index := Scalar.indexCast arg0
  let c442_4287 : Index := 442#32
  ![v5620.toNat, 442]
def k0_off276 (i : grid0.Coords) : Fin 2 → Nat :=
  let arg0 : BitVec 32 := BitVec.ofNat 32 (i 0).val
  let v5634 : Index := Scalar.indexCast arg0
  let c451_4299 : Index := 451#32
  ![v5634.toNat, 451]
def k0_off277 (i : grid0.Coords) : Fin 2 → Nat :=
  let arg0 : BitVec 32 := BitVec.ofNat 32 (i 0).val
  let v5725 : Index := Scalar.indexCast arg0
  let c23_4354 : Index := 23#32
  ![v5725.toNat, 23]
def k0_off278 (i : grid0.Coords) : Fin 2 → Nat :=
  let arg0 : BitVec 32 := BitVec.ofNat 32 (i 0).val
  let v5739 : Index := Scalar.indexCast arg0
  let c53_4366 : Index := 53#32
  ![v5739.toNat, 53]
def k0_off279 (i : grid0.Coords) : Fin 2 → Nat :=
  let arg0 : BitVec 32 := BitVec.ofNat 32 (i 0).val
  let v5753 : Index := Scalar.indexCast arg0
  let c82_4378 : Index := 82#32
  ![v5753.toNat, 82]
def k0_off280 (i : grid0.Coords) : Fin 2 → Nat :=
  let arg0 : BitVec 32 := BitVec.ofNat 32 (i 0).val
  let v5767 : Index := Scalar.indexCast arg0
  let c110_4390 : Index := 110#32
  ![v5767.toNat, 110]
def k0_off281 (i : grid0.Coords) : Fin 2 → Nat :=
  let arg0 : BitVec 32 := BitVec.ofNat 32 (i 0).val
  let v5781 : Index := Scalar.indexCast arg0
  let c137_4402 : Index := 137#32
  ![v5781.toNat, 137]
def k0_off282 (i : grid0.Coords) : Fin 2 → Nat :=
  let arg0 : BitVec 32 := BitVec.ofNat 32 (i 0).val
  let v5795 : Index := Scalar.indexCast arg0
  let c163_4414 : Index := 163#32
  ![v5795.toNat, 163]
def k0_off283 (i : grid0.Coords) : Fin 2 → Nat :=
  let arg0 : BitVec 32 := BitVec.ofNat 32 (i 0).val
  let v5809 : Index := Scalar.indexCast arg0
  let c188_4426 : Index := 188#32
  ![v5809.toNat, 188]
def k0_off284 (i : grid0.Coords) : Fin 2 → Nat :=
  let arg0 : BitVec 32 := BitVec.ofNat 32 (i 0).val
  let v5823 : Index := Scalar.indexCast arg0
  let c212_4438 : Index := 212#32
  ![v5823.toNat, 212]
def k0_off285 (i : grid0.Coords) : Fin 2 → Nat :=
  let arg0 : BitVec 32 := BitVec.ofNat 32 (i 0).val
  let v5837 : Index := Scalar.indexCast arg0
  let c235_4450 : Index := 235#32
  ![v5837.toNat, 235]
def k0_off286 (i : grid0.Coords) : Fin 2 → Nat :=
  let arg0 : BitVec 32 := BitVec.ofNat 32 (i 0).val
  let v5851 : Index := Scalar.indexCast arg0
  let c257_4462 : Index := 257#32
  ![v5851.toNat, 257]
def k0_off287 (i : grid0.Coords) : Fin 2 → Nat :=
  let arg0 : BitVec 32 := BitVec.ofNat 32 (i 0).val
  let v5865 : Index := Scalar.indexCast arg0
  let c278_4474 : Index := 278#32
  ![v5865.toNat, 278]
def k0_off288 (i : grid0.Coords) : Fin 2 → Nat :=
  let arg0 : BitVec 32 := BitVec.ofNat 32 (i 0).val
  let v5879 : Index := Scalar.indexCast arg0
  let c298_4486 : Index := 298#32
  ![v5879.toNat, 298]
def k0_off289 (i : grid0.Coords) : Fin 2 → Nat :=
  let arg0 : BitVec 32 := BitVec.ofNat 32 (i 0).val
  let v5893 : Index := Scalar.indexCast arg0
  let c317_4498 : Index := 317#32
  ![v5893.toNat, 317]
def k0_off290 (i : grid0.Coords) : Fin 2 → Nat :=
  let arg0 : BitVec 32 := BitVec.ofNat 32 (i 0).val
  let v5907 : Index := Scalar.indexCast arg0
  let c335_4510 : Index := 335#32
  ![v5907.toNat, 335]
def k0_off291 (i : grid0.Coords) : Fin 2 → Nat :=
  let arg0 : BitVec 32 := BitVec.ofNat 32 (i 0).val
  let v5921 : Index := Scalar.indexCast arg0
  let c352_4522 : Index := 352#32
  ![v5921.toNat, 352]
def k0_off292 (i : grid0.Coords) : Fin 2 → Nat :=
  let arg0 : BitVec 32 := BitVec.ofNat 32 (i 0).val
  let v5935 : Index := Scalar.indexCast arg0
  let c368_4534 : Index := 368#32
  ![v5935.toNat, 368]
def k0_off293 (i : grid0.Coords) : Fin 2 → Nat :=
  let arg0 : BitVec 32 := BitVec.ofNat 32 (i 0).val
  let v5949 : Index := Scalar.indexCast arg0
  let c383_4546 : Index := 383#32
  ![v5949.toNat, 383]
def k0_off294 (i : grid0.Coords) : Fin 2 → Nat :=
  let arg0 : BitVec 32 := BitVec.ofNat 32 (i 0).val
  let v5963 : Index := Scalar.indexCast arg0
  let c397_4558 : Index := 397#32
  ![v5963.toNat, 397]
def k0_off295 (i : grid0.Coords) : Fin 2 → Nat :=
  let arg0 : BitVec 32 := BitVec.ofNat 32 (i 0).val
  let v5977 : Index := Scalar.indexCast arg0
  let c410_4570 : Index := 410#32
  ![v5977.toNat, 410]
def k0_off296 (i : grid0.Coords) : Fin 2 → Nat :=
  let arg0 : BitVec 32 := BitVec.ofNat 32 (i 0).val
  let v5991 : Index := Scalar.indexCast arg0
  let c422_4582 : Index := 422#32
  ![v5991.toNat, 422]
def k0_off297 (i : grid0.Coords) : Fin 2 → Nat :=
  let arg0 : BitVec 32 := BitVec.ofNat 32 (i 0).val
  let v6005 : Index := Scalar.indexCast arg0
  let c433_4594 : Index := 433#32
  ![v6005.toNat, 433]
def k0_off298 (i : grid0.Coords) : Fin 2 → Nat :=
  let arg0 : BitVec 32 := BitVec.ofNat 32 (i 0).val
  let v6019 : Index := Scalar.indexCast arg0
  let c443_4606 : Index := 443#32
  ![v6019.toNat, 443]
def k0_off299 (i : grid0.Coords) : Fin 2 → Nat :=
  let arg0 : BitVec 32 := BitVec.ofNat 32 (i 0).val
  let v6033 : Index := Scalar.indexCast arg0
  let c452_4618 : Index := 452#32
  ![v6033.toNat, 452]
def k0_off300 (i : grid0.Coords) : Fin 2 → Nat :=
  let arg0 : BitVec 32 := BitVec.ofNat 32 (i 0).val
  let v6047 : Index := Scalar.indexCast arg0
  let c460_4630 : Index := 460#32
  ![v6047.toNat, 460]
def k0_off301 (i : grid0.Coords) : Fin 2 → Nat :=
  let arg0 : BitVec 32 := BitVec.ofNat 32 (i 0).val
  let v6138 : Index := Scalar.indexCast arg0
  let c24_4685 : Index := 24#32
  ![v6138.toNat, 24]
def k0_off302 (i : grid0.Coords) : Fin 2 → Nat :=
  let arg0 : BitVec 32 := BitVec.ofNat 32 (i 0).val
  let v6152 : Index := Scalar.indexCast arg0
  let c54_4697 : Index := 54#32
  ![v6152.toNat, 54]
def k0_off303 (i : grid0.Coords) : Fin 2 → Nat :=
  let arg0 : BitVec 32 := BitVec.ofNat 32 (i 0).val
  let v6166 : Index := Scalar.indexCast arg0
  let c83_4709 : Index := 83#32
  ![v6166.toNat, 83]
def k0_off304 (i : grid0.Coords) : Fin 2 → Nat :=
  let arg0 : BitVec 32 := BitVec.ofNat 32 (i 0).val
  let v6180 : Index := Scalar.indexCast arg0
  let c111_4721 : Index := 111#32
  ![v6180.toNat, 111]
def k0_off305 (i : grid0.Coords) : Fin 2 → Nat :=
  let arg0 : BitVec 32 := BitVec.ofNat 32 (i 0).val
  let v6194 : Index := Scalar.indexCast arg0
  let c138_4733 : Index := 138#32
  ![v6194.toNat, 138]
def k0_off306 (i : grid0.Coords) : Fin 2 → Nat :=
  let arg0 : BitVec 32 := BitVec.ofNat 32 (i 0).val
  let v6208 : Index := Scalar.indexCast arg0
  let c164_4745 : Index := 164#32
  ![v6208.toNat, 164]
def k0_off307 (i : grid0.Coords) : Fin 2 → Nat :=
  let arg0 : BitVec 32 := BitVec.ofNat 32 (i 0).val
  let v6222 : Index := Scalar.indexCast arg0
  let c189_4757 : Index := 189#32
  ![v6222.toNat, 189]
def k0_off308 (i : grid0.Coords) : Fin 2 → Nat :=
  let arg0 : BitVec 32 := BitVec.ofNat 32 (i 0).val
  let v6236 : Index := Scalar.indexCast arg0
  let c213_4769 : Index := 213#32
  ![v6236.toNat, 213]
def k0_off309 (i : grid0.Coords) : Fin 2 → Nat :=
  let arg0 : BitVec 32 := BitVec.ofNat 32 (i 0).val
  let v6250 : Index := Scalar.indexCast arg0
  let c236_4781 : Index := 236#32
  ![v6250.toNat, 236]
def k0_off310 (i : grid0.Coords) : Fin 2 → Nat :=
  let arg0 : BitVec 32 := BitVec.ofNat 32 (i 0).val
  let v6264 : Index := Scalar.indexCast arg0
  let c258_4793 : Index := 258#32
  ![v6264.toNat, 258]
def k0_off311 (i : grid0.Coords) : Fin 2 → Nat :=
  let arg0 : BitVec 32 := BitVec.ofNat 32 (i 0).val
  let v6278 : Index := Scalar.indexCast arg0
  let c279_4805 : Index := 279#32
  ![v6278.toNat, 279]
def k0_off312 (i : grid0.Coords) : Fin 2 → Nat :=
  let arg0 : BitVec 32 := BitVec.ofNat 32 (i 0).val
  let v6292 : Index := Scalar.indexCast arg0
  let c299_4817 : Index := 299#32
  ![v6292.toNat, 299]
def k0_off313 (i : grid0.Coords) : Fin 2 → Nat :=
  let arg0 : BitVec 32 := BitVec.ofNat 32 (i 0).val
  let v6306 : Index := Scalar.indexCast arg0
  let c318_4829 : Index := 318#32
  ![v6306.toNat, 318]
def k0_off314 (i : grid0.Coords) : Fin 2 → Nat :=
  let arg0 : BitVec 32 := BitVec.ofNat 32 (i 0).val
  let v6320 : Index := Scalar.indexCast arg0
  let c336_4841 : Index := 336#32
  ![v6320.toNat, 336]
def k0_off315 (i : grid0.Coords) : Fin 2 → Nat :=
  let arg0 : BitVec 32 := BitVec.ofNat 32 (i 0).val
  let v6334 : Index := Scalar.indexCast arg0
  let c353_4853 : Index := 353#32
  ![v6334.toNat, 353]
def k0_off316 (i : grid0.Coords) : Fin 2 → Nat :=
  let arg0 : BitVec 32 := BitVec.ofNat 32 (i 0).val
  let v6348 : Index := Scalar.indexCast arg0
  let c369_4865 : Index := 369#32
  ![v6348.toNat, 369]
def k0_off317 (i : grid0.Coords) : Fin 2 → Nat :=
  let arg0 : BitVec 32 := BitVec.ofNat 32 (i 0).val
  let v6362 : Index := Scalar.indexCast arg0
  let c384_4878 : Index := 384#32
  ![v6362.toNat, 384]
def k0_off318 (i : grid0.Coords) : Fin 2 → Nat :=
  let arg0 : BitVec 32 := BitVec.ofNat 32 (i 0).val
  let v6376 : Index := Scalar.indexCast arg0
  let c398_4890 : Index := 398#32
  ![v6376.toNat, 398]
def k0_off319 (i : grid0.Coords) : Fin 2 → Nat :=
  let arg0 : BitVec 32 := BitVec.ofNat 32 (i 0).val
  let v6390 : Index := Scalar.indexCast arg0
  let c411_4902 : Index := 411#32
  ![v6390.toNat, 411]
def k0_off320 (i : grid0.Coords) : Fin 2 → Nat :=
  let arg0 : BitVec 32 := BitVec.ofNat 32 (i 0).val
  let v6404 : Index := Scalar.indexCast arg0
  let c423_4914 : Index := 423#32
  ![v6404.toNat, 423]
def k0_off321 (i : grid0.Coords) : Fin 2 → Nat :=
  let arg0 : BitVec 32 := BitVec.ofNat 32 (i 0).val
  let v6418 : Index := Scalar.indexCast arg0
  let c434_4926 : Index := 434#32
  ![v6418.toNat, 434]
def k0_off322 (i : grid0.Coords) : Fin 2 → Nat :=
  let arg0 : BitVec 32 := BitVec.ofNat 32 (i 0).val
  let v6432 : Index := Scalar.indexCast arg0
  let c444_4938 : Index := 444#32
  ![v6432.toNat, 444]
def k0_off323 (i : grid0.Coords) : Fin 2 → Nat :=
  let arg0 : BitVec 32 := BitVec.ofNat 32 (i 0).val
  let v6446 : Index := Scalar.indexCast arg0
  let c453_4950 : Index := 453#32
  ![v6446.toNat, 453]
def k0_off324 (i : grid0.Coords) : Fin 2 → Nat :=
  let arg0 : BitVec 32 := BitVec.ofNat 32 (i 0).val
  let v6460 : Index := Scalar.indexCast arg0
  let c461_4962 : Index := 461#32
  ![v6460.toNat, 461]
def k0_off325 (i : grid0.Coords) : Fin 2 → Nat :=
  let arg0 : BitVec 32 := BitVec.ofNat 32 (i 0).val
  let v6474 : Index := Scalar.indexCast arg0
  let c468_4974 : Index := 468#32
  ![v6474.toNat, 468]
def k0_off326 (i : grid0.Coords) : Fin 2 → Nat :=
  let arg0 : BitVec 32 := BitVec.ofNat 32 (i 0).val
  let v6565 : Index := Scalar.indexCast arg0
  let c25_5029 : Index := 25#32
  ![v6565.toNat, 25]
def k0_off327 (i : grid0.Coords) : Fin 2 → Nat :=
  let arg0 : BitVec 32 := BitVec.ofNat 32 (i 0).val
  let v6579 : Index := Scalar.indexCast arg0
  let c55_5041 : Index := 55#32
  ![v6579.toNat, 55]
def k0_off328 (i : grid0.Coords) : Fin 2 → Nat :=
  let arg0 : BitVec 32 := BitVec.ofNat 32 (i 0).val
  let v6593 : Index := Scalar.indexCast arg0
  let c84_5053 : Index := 84#32
  ![v6593.toNat, 84]
def k0_off329 (i : grid0.Coords) : Fin 2 → Nat :=
  let arg0 : BitVec 32 := BitVec.ofNat 32 (i 0).val
  let v6607 : Index := Scalar.indexCast arg0
  let c112_5065 : Index := 112#32
  ![v6607.toNat, 112]
def k0_off330 (i : grid0.Coords) : Fin 2 → Nat :=
  let arg0 : BitVec 32 := BitVec.ofNat 32 (i 0).val
  let v6621 : Index := Scalar.indexCast arg0
  let c139_5077 : Index := 139#32
  ![v6621.toNat, 139]
def k0_off331 (i : grid0.Coords) : Fin 2 → Nat :=
  let arg0 : BitVec 32 := BitVec.ofNat 32 (i 0).val
  let v6635 : Index := Scalar.indexCast arg0
  let c165_5089 : Index := 165#32
  ![v6635.toNat, 165]
def k0_off332 (i : grid0.Coords) : Fin 2 → Nat :=
  let arg0 : BitVec 32 := BitVec.ofNat 32 (i 0).val
  let v6649 : Index := Scalar.indexCast arg0
  let c190_5101 : Index := 190#32
  ![v6649.toNat, 190]
def k0_off333 (i : grid0.Coords) : Fin 2 → Nat :=
  let arg0 : BitVec 32 := BitVec.ofNat 32 (i 0).val
  let v6663 : Index := Scalar.indexCast arg0
  let c214_5113 : Index := 214#32
  ![v6663.toNat, 214]
def k0_off334 (i : grid0.Coords) : Fin 2 → Nat :=
  let arg0 : BitVec 32 := BitVec.ofNat 32 (i 0).val
  let v6677 : Index := Scalar.indexCast arg0
  let c237_5125 : Index := 237#32
  ![v6677.toNat, 237]
def k0_off335 (i : grid0.Coords) : Fin 2 → Nat :=
  let arg0 : BitVec 32 := BitVec.ofNat 32 (i 0).val
  let v6691 : Index := Scalar.indexCast arg0
  let c259_5137 : Index := 259#32
  ![v6691.toNat, 259]
def k0_off336 (i : grid0.Coords) : Fin 2 → Nat :=
  let arg0 : BitVec 32 := BitVec.ofNat 32 (i 0).val
  let v6705 : Index := Scalar.indexCast arg0
  let c280_5149 : Index := 280#32
  ![v6705.toNat, 280]
def k0_off337 (i : grid0.Coords) : Fin 2 → Nat :=
  let arg0 : BitVec 32 := BitVec.ofNat 32 (i 0).val
  let v6719 : Index := Scalar.indexCast arg0
  let c300_5161 : Index := 300#32
  ![v6719.toNat, 300]
def k0_off338 (i : grid0.Coords) : Fin 2 → Nat :=
  let arg0 : BitVec 32 := BitVec.ofNat 32 (i 0).val
  let v6733 : Index := Scalar.indexCast arg0
  let c319_5173 : Index := 319#32
  ![v6733.toNat, 319]
def k0_off339 (i : grid0.Coords) : Fin 2 → Nat :=
  let arg0 : BitVec 32 := BitVec.ofNat 32 (i 0).val
  let v6747 : Index := Scalar.indexCast arg0
  let c337_5185 : Index := 337#32
  ![v6747.toNat, 337]
def k0_off340 (i : grid0.Coords) : Fin 2 → Nat :=
  let arg0 : BitVec 32 := BitVec.ofNat 32 (i 0).val
  let v6761 : Index := Scalar.indexCast arg0
  let c354_5197 : Index := 354#32
  ![v6761.toNat, 354]
def k0_off341 (i : grid0.Coords) : Fin 2 → Nat :=
  let arg0 : BitVec 32 := BitVec.ofNat 32 (i 0).val
  let v6775 : Index := Scalar.indexCast arg0
  let c370_5209 : Index := 370#32
  ![v6775.toNat, 370]
def k0_off342 (i : grid0.Coords) : Fin 2 → Nat :=
  let arg0 : BitVec 32 := BitVec.ofNat 32 (i 0).val
  let v6789 : Index := Scalar.indexCast arg0
  let c385_5221 : Index := 385#32
  ![v6789.toNat, 385]
def k0_off343 (i : grid0.Coords) : Fin 2 → Nat :=
  let arg0 : BitVec 32 := BitVec.ofNat 32 (i 0).val
  let v6803 : Index := Scalar.indexCast arg0
  let c399_5233 : Index := 399#32
  ![v6803.toNat, 399]
def k0_off344 (i : grid0.Coords) : Fin 2 → Nat :=
  let arg0 : BitVec 32 := BitVec.ofNat 32 (i 0).val
  let v6817 : Index := Scalar.indexCast arg0
  let c412_5245 : Index := 412#32
  ![v6817.toNat, 412]
def k0_off345 (i : grid0.Coords) : Fin 2 → Nat :=
  let arg0 : BitVec 32 := BitVec.ofNat 32 (i 0).val
  let v6831 : Index := Scalar.indexCast arg0
  let c424_5257 : Index := 424#32
  ![v6831.toNat, 424]
def k0_off346 (i : grid0.Coords) : Fin 2 → Nat :=
  let arg0 : BitVec 32 := BitVec.ofNat 32 (i 0).val
  let v6845 : Index := Scalar.indexCast arg0
  let c435_5269 : Index := 435#32
  ![v6845.toNat, 435]
def k0_off347 (i : grid0.Coords) : Fin 2 → Nat :=
  let arg0 : BitVec 32 := BitVec.ofNat 32 (i 0).val
  let v6859 : Index := Scalar.indexCast arg0
  let c445_5281 : Index := 445#32
  ![v6859.toNat, 445]
def k0_off348 (i : grid0.Coords) : Fin 2 → Nat :=
  let arg0 : BitVec 32 := BitVec.ofNat 32 (i 0).val
  let v6873 : Index := Scalar.indexCast arg0
  let c454_5293 : Index := 454#32
  ![v6873.toNat, 454]
def k0_off349 (i : grid0.Coords) : Fin 2 → Nat :=
  let arg0 : BitVec 32 := BitVec.ofNat 32 (i 0).val
  let v6887 : Index := Scalar.indexCast arg0
  let c462_5305 : Index := 462#32
  ![v6887.toNat, 462]
def k0_off350 (i : grid0.Coords) : Fin 2 → Nat :=
  let arg0 : BitVec 32 := BitVec.ofNat 32 (i 0).val
  let v6901 : Index := Scalar.indexCast arg0
  let c469_5317 : Index := 469#32
  ![v6901.toNat, 469]
def k0_off351 (i : grid0.Coords) : Fin 2 → Nat :=
  let arg0 : BitVec 32 := BitVec.ofNat 32 (i 0).val
  let v6915 : Index := Scalar.indexCast arg0
  let c475_5329 : Index := 475#32
  ![v6915.toNat, 475]
def k0_off352 (i : grid0.Coords) : Fin 2 → Nat :=
  let arg0 : BitVec 32 := BitVec.ofNat 32 (i 0).val
  let v7006 : Index := Scalar.indexCast arg0
  let c26_5384 : Index := 26#32
  ![v7006.toNat, 26]
def k0_off353 (i : grid0.Coords) : Fin 2 → Nat :=
  let arg0 : BitVec 32 := BitVec.ofNat 32 (i 0).val
  let v7020 : Index := Scalar.indexCast arg0
  let c56_5396 : Index := 56#32
  ![v7020.toNat, 56]
def k0_off354 (i : grid0.Coords) : Fin 2 → Nat :=
  let arg0 : BitVec 32 := BitVec.ofNat 32 (i 0).val
  let v7034 : Index := Scalar.indexCast arg0
  let c85_5408 : Index := 85#32
  ![v7034.toNat, 85]
def k0_off355 (i : grid0.Coords) : Fin 2 → Nat :=
  let arg0 : BitVec 32 := BitVec.ofNat 32 (i 0).val
  let v7048 : Index := Scalar.indexCast arg0
  let c113_5420 : Index := 113#32
  ![v7048.toNat, 113]
def k0_off356 (i : grid0.Coords) : Fin 2 → Nat :=
  let arg0 : BitVec 32 := BitVec.ofNat 32 (i 0).val
  let v7062 : Index := Scalar.indexCast arg0
  let c140_5432 : Index := 140#32
  ![v7062.toNat, 140]
def k0_off357 (i : grid0.Coords) : Fin 2 → Nat :=
  let arg0 : BitVec 32 := BitVec.ofNat 32 (i 0).val
  let v7076 : Index := Scalar.indexCast arg0
  let c166_5444 : Index := 166#32
  ![v7076.toNat, 166]
def k0_off358 (i : grid0.Coords) : Fin 2 → Nat :=
  let arg0 : BitVec 32 := BitVec.ofNat 32 (i 0).val
  let v7090 : Index := Scalar.indexCast arg0
  let c191_5456 : Index := 191#32
  ![v7090.toNat, 191]
def k0_off359 (i : grid0.Coords) : Fin 2 → Nat :=
  let arg0 : BitVec 32 := BitVec.ofNat 32 (i 0).val
  let v7104 : Index := Scalar.indexCast arg0
  let c215_5468 : Index := 215#32
  ![v7104.toNat, 215]
def k0_off360 (i : grid0.Coords) : Fin 2 → Nat :=
  let arg0 : BitVec 32 := BitVec.ofNat 32 (i 0).val
  let v7118 : Index := Scalar.indexCast arg0
  let c238_5480 : Index := 238#32
  ![v7118.toNat, 238]
def k0_off361 (i : grid0.Coords) : Fin 2 → Nat :=
  let arg0 : BitVec 32 := BitVec.ofNat 32 (i 0).val
  let v7132 : Index := Scalar.indexCast arg0
  let c260_5492 : Index := 260#32
  ![v7132.toNat, 260]
def k0_off362 (i : grid0.Coords) : Fin 2 → Nat :=
  let arg0 : BitVec 32 := BitVec.ofNat 32 (i 0).val
  let v7146 : Index := Scalar.indexCast arg0
  let c281_5504 : Index := 281#32
  ![v7146.toNat, 281]
def k0_off363 (i : grid0.Coords) : Fin 2 → Nat :=
  let arg0 : BitVec 32 := BitVec.ofNat 32 (i 0).val
  let v7160 : Index := Scalar.indexCast arg0
  let c301_5516 : Index := 301#32
  ![v7160.toNat, 301]
def k0_off364 (i : grid0.Coords) : Fin 2 → Nat :=
  let arg0 : BitVec 32 := BitVec.ofNat 32 (i 0).val
  let v7174 : Index := Scalar.indexCast arg0
  let c320_5528 : Index := 320#32
  ![v7174.toNat, 320]
def k0_off365 (i : grid0.Coords) : Fin 2 → Nat :=
  let arg0 : BitVec 32 := BitVec.ofNat 32 (i 0).val
  let v7188 : Index := Scalar.indexCast arg0
  let c338_5540 : Index := 338#32
  ![v7188.toNat, 338]
def k0_off366 (i : grid0.Coords) : Fin 2 → Nat :=
  let arg0 : BitVec 32 := BitVec.ofNat 32 (i 0).val
  let v7202 : Index := Scalar.indexCast arg0
  let c355_5552 : Index := 355#32
  ![v7202.toNat, 355]
def k0_off367 (i : grid0.Coords) : Fin 2 → Nat :=
  let arg0 : BitVec 32 := BitVec.ofNat 32 (i 0).val
  let v7216 : Index := Scalar.indexCast arg0
  let c371_5564 : Index := 371#32
  ![v7216.toNat, 371]
def k0_off368 (i : grid0.Coords) : Fin 2 → Nat :=
  let arg0 : BitVec 32 := BitVec.ofNat 32 (i 0).val
  let v7230 : Index := Scalar.indexCast arg0
  let c386_5576 : Index := 386#32
  ![v7230.toNat, 386]
def k0_off369 (i : grid0.Coords) : Fin 2 → Nat :=
  let arg0 : BitVec 32 := BitVec.ofNat 32 (i 0).val
  let v7244 : Index := Scalar.indexCast arg0
  let c400_5588 : Index := 400#32
  ![v7244.toNat, 400]
def k0_off370 (i : grid0.Coords) : Fin 2 → Nat :=
  let arg0 : BitVec 32 := BitVec.ofNat 32 (i 0).val
  let v7258 : Index := Scalar.indexCast arg0
  let c413_5600 : Index := 413#32
  ![v7258.toNat, 413]
def k0_off371 (i : grid0.Coords) : Fin 2 → Nat :=
  let arg0 : BitVec 32 := BitVec.ofNat 32 (i 0).val
  let v7272 : Index := Scalar.indexCast arg0
  let c425_5612 : Index := 425#32
  ![v7272.toNat, 425]
def k0_off372 (i : grid0.Coords) : Fin 2 → Nat :=
  let arg0 : BitVec 32 := BitVec.ofNat 32 (i 0).val
  let v7286 : Index := Scalar.indexCast arg0
  let c436_5624 : Index := 436#32
  ![v7286.toNat, 436]
def k0_off373 (i : grid0.Coords) : Fin 2 → Nat :=
  let arg0 : BitVec 32 := BitVec.ofNat 32 (i 0).val
  let v7300 : Index := Scalar.indexCast arg0
  let c446_5636 : Index := 446#32
  ![v7300.toNat, 446]
def k0_off374 (i : grid0.Coords) : Fin 2 → Nat :=
  let arg0 : BitVec 32 := BitVec.ofNat 32 (i 0).val
  let v7314 : Index := Scalar.indexCast arg0
  let c455_5648 : Index := 455#32
  ![v7314.toNat, 455]
def k0_off375 (i : grid0.Coords) : Fin 2 → Nat :=
  let arg0 : BitVec 32 := BitVec.ofNat 32 (i 0).val
  let v7328 : Index := Scalar.indexCast arg0
  let c463_5660 : Index := 463#32
  ![v7328.toNat, 463]
def k0_off376 (i : grid0.Coords) : Fin 2 → Nat :=
  let arg0 : BitVec 32 := BitVec.ofNat 32 (i 0).val
  let v7342 : Index := Scalar.indexCast arg0
  let c470_5672 : Index := 470#32
  ![v7342.toNat, 470]
def k0_off377 (i : grid0.Coords) : Fin 2 → Nat :=
  let arg0 : BitVec 32 := BitVec.ofNat 32 (i 0).val
  let v7356 : Index := Scalar.indexCast arg0
  let c476_5684 : Index := 476#32
  ![v7356.toNat, 476]
def k0_off378 (i : grid0.Coords) : Fin 2 → Nat :=
  let arg0 : BitVec 32 := BitVec.ofNat 32 (i 0).val
  let v7370 : Index := Scalar.indexCast arg0
  let c481_5696 : Index := 481#32
  ![v7370.toNat, 481]
def k0_off379 (i : grid0.Coords) : Fin 2 → Nat :=
  let arg0 : BitVec 32 := BitVec.ofNat 32 (i 0).val
  let v7461 : Index := Scalar.indexCast arg0
  let c27_5751 : Index := 27#32
  ![v7461.toNat, 27]
def k0_off380 (i : grid0.Coords) : Fin 2 → Nat :=
  let arg0 : BitVec 32 := BitVec.ofNat 32 (i 0).val
  let v7475 : Index := Scalar.indexCast arg0
  let c57_5763 : Index := 57#32
  ![v7475.toNat, 57]
def k0_off381 (i : grid0.Coords) : Fin 2 → Nat :=
  let arg0 : BitVec 32 := BitVec.ofNat 32 (i 0).val
  let v7489 : Index := Scalar.indexCast arg0
  let c86_5775 : Index := 86#32
  ![v7489.toNat, 86]
def k0_off382 (i : grid0.Coords) : Fin 2 → Nat :=
  let arg0 : BitVec 32 := BitVec.ofNat 32 (i 0).val
  let v7503 : Index := Scalar.indexCast arg0
  let c114_5787 : Index := 114#32
  ![v7503.toNat, 114]
def k0_off383 (i : grid0.Coords) : Fin 2 → Nat :=
  let arg0 : BitVec 32 := BitVec.ofNat 32 (i 0).val
  let v7517 : Index := Scalar.indexCast arg0
  let c141_5799 : Index := 141#32
  ![v7517.toNat, 141]
def k0_off384 (i : grid0.Coords) : Fin 2 → Nat :=
  let arg0 : BitVec 32 := BitVec.ofNat 32 (i 0).val
  let v7531 : Index := Scalar.indexCast arg0
  let c167_5811 : Index := 167#32
  ![v7531.toNat, 167]
def k0_off385 (i : grid0.Coords) : Fin 2 → Nat :=
  let arg0 : BitVec 32 := BitVec.ofNat 32 (i 0).val
  let v7545 : Index := Scalar.indexCast arg0
  let c192_5823 : Index := 192#32
  ![v7545.toNat, 192]
def k0_off386 (i : grid0.Coords) : Fin 2 → Nat :=
  let arg0 : BitVec 32 := BitVec.ofNat 32 (i 0).val
  let v7559 : Index := Scalar.indexCast arg0
  let c216_5835 : Index := 216#32
  ![v7559.toNat, 216]
def k0_off387 (i : grid0.Coords) : Fin 2 → Nat :=
  let arg0 : BitVec 32 := BitVec.ofNat 32 (i 0).val
  let v7573 : Index := Scalar.indexCast arg0
  let c239_5847 : Index := 239#32
  ![v7573.toNat, 239]
def k0_off388 (i : grid0.Coords) : Fin 2 → Nat :=
  let arg0 : BitVec 32 := BitVec.ofNat 32 (i 0).val
  let v7587 : Index := Scalar.indexCast arg0
  let c261_5859 : Index := 261#32
  ![v7587.toNat, 261]
def k0_off389 (i : grid0.Coords) : Fin 2 → Nat :=
  let arg0 : BitVec 32 := BitVec.ofNat 32 (i 0).val
  let v7601 : Index := Scalar.indexCast arg0
  let c282_5871 : Index := 282#32
  ![v7601.toNat, 282]
def k0_off390 (i : grid0.Coords) : Fin 2 → Nat :=
  let arg0 : BitVec 32 := BitVec.ofNat 32 (i 0).val
  let v7615 : Index := Scalar.indexCast arg0
  let c302_5883 : Index := 302#32
  ![v7615.toNat, 302]
def k0_off391 (i : grid0.Coords) : Fin 2 → Nat :=
  let arg0 : BitVec 32 := BitVec.ofNat 32 (i 0).val
  let v7629 : Index := Scalar.indexCast arg0
  let c321_5895 : Index := 321#32
  ![v7629.toNat, 321]
def k0_off392 (i : grid0.Coords) : Fin 2 → Nat :=
  let arg0 : BitVec 32 := BitVec.ofNat 32 (i 0).val
  let v7643 : Index := Scalar.indexCast arg0
  let c339_5907 : Index := 339#32
  ![v7643.toNat, 339]
def k0_off393 (i : grid0.Coords) : Fin 2 → Nat :=
  let arg0 : BitVec 32 := BitVec.ofNat 32 (i 0).val
  let v7657 : Index := Scalar.indexCast arg0
  let c356_5919 : Index := 356#32
  ![v7657.toNat, 356]
def k0_off394 (i : grid0.Coords) : Fin 2 → Nat :=
  let arg0 : BitVec 32 := BitVec.ofNat 32 (i 0).val
  let v7671 : Index := Scalar.indexCast arg0
  let c372_5931 : Index := 372#32
  ![v7671.toNat, 372]
def k0_off395 (i : grid0.Coords) : Fin 2 → Nat :=
  let arg0 : BitVec 32 := BitVec.ofNat 32 (i 0).val
  let v7685 : Index := Scalar.indexCast arg0
  let c387_5943 : Index := 387#32
  ![v7685.toNat, 387]
def k0_off396 (i : grid0.Coords) : Fin 2 → Nat :=
  let arg0 : BitVec 32 := BitVec.ofNat 32 (i 0).val
  let v7699 : Index := Scalar.indexCast arg0
  let c401_5955 : Index := 401#32
  ![v7699.toNat, 401]
def k0_off397 (i : grid0.Coords) : Fin 2 → Nat :=
  let arg0 : BitVec 32 := BitVec.ofNat 32 (i 0).val
  let v7713 : Index := Scalar.indexCast arg0
  let c414_5967 : Index := 414#32
  ![v7713.toNat, 414]
def k0_off398 (i : grid0.Coords) : Fin 2 → Nat :=
  let arg0 : BitVec 32 := BitVec.ofNat 32 (i 0).val
  let v7727 : Index := Scalar.indexCast arg0
  let c426_5979 : Index := 426#32
  ![v7727.toNat, 426]
def k0_off399 (i : grid0.Coords) : Fin 2 → Nat :=
  let arg0 : BitVec 32 := BitVec.ofNat 32 (i 0).val
  let v7741 : Index := Scalar.indexCast arg0
  let c437_5991 : Index := 437#32
  ![v7741.toNat, 437]
def k0_off400 (i : grid0.Coords) : Fin 2 → Nat :=
  let arg0 : BitVec 32 := BitVec.ofNat 32 (i 0).val
  let v7755 : Index := Scalar.indexCast arg0
  let c447_6003 : Index := 447#32
  ![v7755.toNat, 447]
def k0_off401 (i : grid0.Coords) : Fin 2 → Nat :=
  let arg0 : BitVec 32 := BitVec.ofNat 32 (i 0).val
  let v7769 : Index := Scalar.indexCast arg0
  let c456_6015 : Index := 456#32
  ![v7769.toNat, 456]
def k0_off402 (i : grid0.Coords) : Fin 2 → Nat :=
  let arg0 : BitVec 32 := BitVec.ofNat 32 (i 0).val
  let v7783 : Index := Scalar.indexCast arg0
  let c464_6027 : Index := 464#32
  ![v7783.toNat, 464]
def k0_off403 (i : grid0.Coords) : Fin 2 → Nat :=
  let arg0 : BitVec 32 := BitVec.ofNat 32 (i 0).val
  let v7797 : Index := Scalar.indexCast arg0
  let c471_6039 : Index := 471#32
  ![v7797.toNat, 471]
def k0_off404 (i : grid0.Coords) : Fin 2 → Nat :=
  let arg0 : BitVec 32 := BitVec.ofNat 32 (i 0).val
  let v7811 : Index := Scalar.indexCast arg0
  let c477_6051 : Index := 477#32
  ![v7811.toNat, 477]
def k0_off405 (i : grid0.Coords) : Fin 2 → Nat :=
  let arg0 : BitVec 32 := BitVec.ofNat 32 (i 0).val
  let v7825 : Index := Scalar.indexCast arg0
  let c482_6063 : Index := 482#32
  ![v7825.toNat, 482]
def k0_off406 (i : grid0.Coords) : Fin 2 → Nat :=
  let arg0 : BitVec 32 := BitVec.ofNat 32 (i 0).val
  let v7839 : Index := Scalar.indexCast arg0
  let c486_6075 : Index := 486#32
  ![v7839.toNat, 486]
def k0_off407 (i : grid0.Coords) : Fin 2 → Nat :=
  let arg0 : BitVec 32 := BitVec.ofNat 32 (i 0).val
  let v7930 : Index := Scalar.indexCast arg0
  let c28_6130 : Index := 28#32
  ![v7930.toNat, 28]
def k0_off408 (i : grid0.Coords) : Fin 2 → Nat :=
  let arg0 : BitVec 32 := BitVec.ofNat 32 (i 0).val
  let v7944 : Index := Scalar.indexCast arg0
  let c58_6142 : Index := 58#32
  ![v7944.toNat, 58]
def k0_off409 (i : grid0.Coords) : Fin 2 → Nat :=
  let arg0 : BitVec 32 := BitVec.ofNat 32 (i 0).val
  let v7958 : Index := Scalar.indexCast arg0
  let c87_6154 : Index := 87#32
  ![v7958.toNat, 87]
def k0_off410 (i : grid0.Coords) : Fin 2 → Nat :=
  let arg0 : BitVec 32 := BitVec.ofNat 32 (i 0).val
  let v7972 : Index := Scalar.indexCast arg0
  let c115_6166 : Index := 115#32
  ![v7972.toNat, 115]
def k0_off411 (i : grid0.Coords) : Fin 2 → Nat :=
  let arg0 : BitVec 32 := BitVec.ofNat 32 (i 0).val
  let v7986 : Index := Scalar.indexCast arg0
  let c142_6178 : Index := 142#32
  ![v7986.toNat, 142]
def k0_off412 (i : grid0.Coords) : Fin 2 → Nat :=
  let arg0 : BitVec 32 := BitVec.ofNat 32 (i 0).val
  let v8000 : Index := Scalar.indexCast arg0
  let c168_6190 : Index := 168#32
  ![v8000.toNat, 168]
def k0_off413 (i : grid0.Coords) : Fin 2 → Nat :=
  let arg0 : BitVec 32 := BitVec.ofNat 32 (i 0).val
  let v8014 : Index := Scalar.indexCast arg0
  let c193_6202 : Index := 193#32
  ![v8014.toNat, 193]
def k0_off414 (i : grid0.Coords) : Fin 2 → Nat :=
  let arg0 : BitVec 32 := BitVec.ofNat 32 (i 0).val
  let v8028 : Index := Scalar.indexCast arg0
  let c217_6214 : Index := 217#32
  ![v8028.toNat, 217]
def k0_off415 (i : grid0.Coords) : Fin 2 → Nat :=
  let arg0 : BitVec 32 := BitVec.ofNat 32 (i 0).val
  let v8042 : Index := Scalar.indexCast arg0
  let c240_6226 : Index := 240#32
  ![v8042.toNat, 240]
def k0_off416 (i : grid0.Coords) : Fin 2 → Nat :=
  let arg0 : BitVec 32 := BitVec.ofNat 32 (i 0).val
  let v8056 : Index := Scalar.indexCast arg0
  let c262_6238 : Index := 262#32
  ![v8056.toNat, 262]
def k0_off417 (i : grid0.Coords) : Fin 2 → Nat :=
  let arg0 : BitVec 32 := BitVec.ofNat 32 (i 0).val
  let v8070 : Index := Scalar.indexCast arg0
  let c283_6250 : Index := 283#32
  ![v8070.toNat, 283]
def k0_off418 (i : grid0.Coords) : Fin 2 → Nat :=
  let arg0 : BitVec 32 := BitVec.ofNat 32 (i 0).val
  let v8084 : Index := Scalar.indexCast arg0
  let c303_6262 : Index := 303#32
  ![v8084.toNat, 303]
def k0_off419 (i : grid0.Coords) : Fin 2 → Nat :=
  let arg0 : BitVec 32 := BitVec.ofNat 32 (i 0).val
  let v8098 : Index := Scalar.indexCast arg0
  let c322_6274 : Index := 322#32
  ![v8098.toNat, 322]
def k0_off420 (i : grid0.Coords) : Fin 2 → Nat :=
  let arg0 : BitVec 32 := BitVec.ofNat 32 (i 0).val
  let v8112 : Index := Scalar.indexCast arg0
  let c340_6286 : Index := 340#32
  ![v8112.toNat, 340]
def k0_off421 (i : grid0.Coords) : Fin 2 → Nat :=
  let arg0 : BitVec 32 := BitVec.ofNat 32 (i 0).val
  let v8126 : Index := Scalar.indexCast arg0
  let c357_6298 : Index := 357#32
  ![v8126.toNat, 357]
def k0_off422 (i : grid0.Coords) : Fin 2 → Nat :=
  let arg0 : BitVec 32 := BitVec.ofNat 32 (i 0).val
  let v8140 : Index := Scalar.indexCast arg0
  let c373_6310 : Index := 373#32
  ![v8140.toNat, 373]
def k0_off423 (i : grid0.Coords) : Fin 2 → Nat :=
  let arg0 : BitVec 32 := BitVec.ofNat 32 (i 0).val
  let v8154 : Index := Scalar.indexCast arg0
  let c388_6322 : Index := 388#32
  ![v8154.toNat, 388]
def k0_off424 (i : grid0.Coords) : Fin 2 → Nat :=
  let arg0 : BitVec 32 := BitVec.ofNat 32 (i 0).val
  let v8168 : Index := Scalar.indexCast arg0
  let c402_6334 : Index := 402#32
  ![v8168.toNat, 402]
def k0_off425 (i : grid0.Coords) : Fin 2 → Nat :=
  let arg0 : BitVec 32 := BitVec.ofNat 32 (i 0).val
  let v8182 : Index := Scalar.indexCast arg0
  let c415_6346 : Index := 415#32
  ![v8182.toNat, 415]
def k0_off426 (i : grid0.Coords) : Fin 2 → Nat :=
  let arg0 : BitVec 32 := BitVec.ofNat 32 (i 0).val
  let v8196 : Index := Scalar.indexCast arg0
  let c427_6358 : Index := 427#32
  ![v8196.toNat, 427]
def k0_off427 (i : grid0.Coords) : Fin 2 → Nat :=
  let arg0 : BitVec 32 := BitVec.ofNat 32 (i 0).val
  let v8210 : Index := Scalar.indexCast arg0
  let c438_6370 : Index := 438#32
  ![v8210.toNat, 438]
def k0_off428 (i : grid0.Coords) : Fin 2 → Nat :=
  let arg0 : BitVec 32 := BitVec.ofNat 32 (i 0).val
  let v8224 : Index := Scalar.indexCast arg0
  let c448_6382 : Index := 448#32
  ![v8224.toNat, 448]
def k0_off429 (i : grid0.Coords) : Fin 2 → Nat :=
  let arg0 : BitVec 32 := BitVec.ofNat 32 (i 0).val
  let v8238 : Index := Scalar.indexCast arg0
  let c457_6394 : Index := 457#32
  ![v8238.toNat, 457]
def k0_off430 (i : grid0.Coords) : Fin 2 → Nat :=
  let arg0 : BitVec 32 := BitVec.ofNat 32 (i 0).val
  let v8252 : Index := Scalar.indexCast arg0
  let c465_6406 : Index := 465#32
  ![v8252.toNat, 465]
def k0_off431 (i : grid0.Coords) : Fin 2 → Nat :=
  let arg0 : BitVec 32 := BitVec.ofNat 32 (i 0).val
  let v8266 : Index := Scalar.indexCast arg0
  let c472_6418 : Index := 472#32
  ![v8266.toNat, 472]
def k0_off432 (i : grid0.Coords) : Fin 2 → Nat :=
  let arg0 : BitVec 32 := BitVec.ofNat 32 (i 0).val
  let v8280 : Index := Scalar.indexCast arg0
  let c478_6430 : Index := 478#32
  ![v8280.toNat, 478]
def k0_off433 (i : grid0.Coords) : Fin 2 → Nat :=
  let arg0 : BitVec 32 := BitVec.ofNat 32 (i 0).val
  let v8294 : Index := Scalar.indexCast arg0
  let c483_6442 : Index := 483#32
  ![v8294.toNat, 483]
def k0_off434 (i : grid0.Coords) : Fin 2 → Nat :=
  let arg0 : BitVec 32 := BitVec.ofNat 32 (i 0).val
  let v8308 : Index := Scalar.indexCast arg0
  let c487_6454 : Index := 487#32
  ![v8308.toNat, 487]
def k0_off435 (i : grid0.Coords) : Fin 2 → Nat :=
  let arg0 : BitVec 32 := BitVec.ofNat 32 (i 0).val
  let v8322 : Index := Scalar.indexCast arg0
  let c490_6466 : Index := 490#32
  ![v8322.toNat, 490]
def k0_off436 (i : grid0.Coords) : Fin 2 → Nat :=
  let arg0 : BitVec 32 := BitVec.ofNat 32 (i 0).val
  let v8413 : Index := Scalar.indexCast arg0
  let c29_6521 : Index := 29#32
  ![v8413.toNat, 29]
def k0_off437 (i : grid0.Coords) : Fin 2 → Nat :=
  let arg0 : BitVec 32 := BitVec.ofNat 32 (i 0).val
  let v8427 : Index := Scalar.indexCast arg0
  let c59_6533 : Index := 59#32
  ![v8427.toNat, 59]
def k0_off438 (i : grid0.Coords) : Fin 2 → Nat :=
  let arg0 : BitVec 32 := BitVec.ofNat 32 (i 0).val
  let v8441 : Index := Scalar.indexCast arg0
  let c88_6545 : Index := 88#32
  ![v8441.toNat, 88]
def k0_off439 (i : grid0.Coords) : Fin 2 → Nat :=
  let arg0 : BitVec 32 := BitVec.ofNat 32 (i 0).val
  let v8455 : Index := Scalar.indexCast arg0
  let c116_6557 : Index := 116#32
  ![v8455.toNat, 116]
def k0_off440 (i : grid0.Coords) : Fin 2 → Nat :=
  let arg0 : BitVec 32 := BitVec.ofNat 32 (i 0).val
  let v8469 : Index := Scalar.indexCast arg0
  let c143_6569 : Index := 143#32
  ![v8469.toNat, 143]
def k0_off441 (i : grid0.Coords) : Fin 2 → Nat :=
  let arg0 : BitVec 32 := BitVec.ofNat 32 (i 0).val
  let v8483 : Index := Scalar.indexCast arg0
  let c169_6581 : Index := 169#32
  ![v8483.toNat, 169]
def k0_off442 (i : grid0.Coords) : Fin 2 → Nat :=
  let arg0 : BitVec 32 := BitVec.ofNat 32 (i 0).val
  let v8497 : Index := Scalar.indexCast arg0
  let c194_6593 : Index := 194#32
  ![v8497.toNat, 194]
def k0_off443 (i : grid0.Coords) : Fin 2 → Nat :=
  let arg0 : BitVec 32 := BitVec.ofNat 32 (i 0).val
  let v8511 : Index := Scalar.indexCast arg0
  let c218_6605 : Index := 218#32
  ![v8511.toNat, 218]
def k0_off444 (i : grid0.Coords) : Fin 2 → Nat :=
  let arg0 : BitVec 32 := BitVec.ofNat 32 (i 0).val
  let v8525 : Index := Scalar.indexCast arg0
  let c241_6617 : Index := 241#32
  ![v8525.toNat, 241]
def k0_off445 (i : grid0.Coords) : Fin 2 → Nat :=
  let arg0 : BitVec 32 := BitVec.ofNat 32 (i 0).val
  let v8539 : Index := Scalar.indexCast arg0
  let c263_6629 : Index := 263#32
  ![v8539.toNat, 263]
def k0_off446 (i : grid0.Coords) : Fin 2 → Nat :=
  let arg0 : BitVec 32 := BitVec.ofNat 32 (i 0).val
  let v8553 : Index := Scalar.indexCast arg0
  let c284_6641 : Index := 284#32
  ![v8553.toNat, 284]
def k0_off447 (i : grid0.Coords) : Fin 2 → Nat :=
  let arg0 : BitVec 32 := BitVec.ofNat 32 (i 0).val
  let v8567 : Index := Scalar.indexCast arg0
  let c304_6653 : Index := 304#32
  ![v8567.toNat, 304]
def k0_off448 (i : grid0.Coords) : Fin 2 → Nat :=
  let arg0 : BitVec 32 := BitVec.ofNat 32 (i 0).val
  let v8581 : Index := Scalar.indexCast arg0
  let c323_6665 : Index := 323#32
  ![v8581.toNat, 323]
def k0_off449 (i : grid0.Coords) : Fin 2 → Nat :=
  let arg0 : BitVec 32 := BitVec.ofNat 32 (i 0).val
  let v8595 : Index := Scalar.indexCast arg0
  let c341_6677 : Index := 341#32
  ![v8595.toNat, 341]
def k0_off450 (i : grid0.Coords) : Fin 2 → Nat :=
  let arg0 : BitVec 32 := BitVec.ofNat 32 (i 0).val
  let v8609 : Index := Scalar.indexCast arg0
  let c358_6689 : Index := 358#32
  ![v8609.toNat, 358]
def k0_off451 (i : grid0.Coords) : Fin 2 → Nat :=
  let arg0 : BitVec 32 := BitVec.ofNat 32 (i 0).val
  let v8623 : Index := Scalar.indexCast arg0
  let c374_6701 : Index := 374#32
  ![v8623.toNat, 374]
def k0_off452 (i : grid0.Coords) : Fin 2 → Nat :=
  let arg0 : BitVec 32 := BitVec.ofNat 32 (i 0).val
  let v8637 : Index := Scalar.indexCast arg0
  let c389_6713 : Index := 389#32
  ![v8637.toNat, 389]
def k0_off453 (i : grid0.Coords) : Fin 2 → Nat :=
  let arg0 : BitVec 32 := BitVec.ofNat 32 (i 0).val
  let v8651 : Index := Scalar.indexCast arg0
  let c403_6725 : Index := 403#32
  ![v8651.toNat, 403]
def k0_off454 (i : grid0.Coords) : Fin 2 → Nat :=
  let arg0 : BitVec 32 := BitVec.ofNat 32 (i 0).val
  let v8665 : Index := Scalar.indexCast arg0
  let c416_6737 : Index := 416#32
  ![v8665.toNat, 416]
def k0_off455 (i : grid0.Coords) : Fin 2 → Nat :=
  let arg0 : BitVec 32 := BitVec.ofNat 32 (i 0).val
  let v8679 : Index := Scalar.indexCast arg0
  let c428_6749 : Index := 428#32
  ![v8679.toNat, 428]
def k0_off456 (i : grid0.Coords) : Fin 2 → Nat :=
  let arg0 : BitVec 32 := BitVec.ofNat 32 (i 0).val
  let v8693 : Index := Scalar.indexCast arg0
  let c439_6761 : Index := 439#32
  ![v8693.toNat, 439]
def k0_off457 (i : grid0.Coords) : Fin 2 → Nat :=
  let arg0 : BitVec 32 := BitVec.ofNat 32 (i 0).val
  let v8707 : Index := Scalar.indexCast arg0
  let c449_6773 : Index := 449#32
  ![v8707.toNat, 449]
def k0_off458 (i : grid0.Coords) : Fin 2 → Nat :=
  let arg0 : BitVec 32 := BitVec.ofNat 32 (i 0).val
  let v8721 : Index := Scalar.indexCast arg0
  let c458_6785 : Index := 458#32
  ![v8721.toNat, 458]
def k0_off459 (i : grid0.Coords) : Fin 2 → Nat :=
  let arg0 : BitVec 32 := BitVec.ofNat 32 (i 0).val
  let v8735 : Index := Scalar.indexCast arg0
  let c466_6797 : Index := 466#32
  ![v8735.toNat, 466]
def k0_off460 (i : grid0.Coords) : Fin 2 → Nat :=
  let arg0 : BitVec 32 := BitVec.ofNat 32 (i 0).val
  let v8749 : Index := Scalar.indexCast arg0
  let c473_6809 : Index := 473#32
  ![v8749.toNat, 473]
def k0_off461 (i : grid0.Coords) : Fin 2 → Nat :=
  let arg0 : BitVec 32 := BitVec.ofNat 32 (i 0).val
  let v8763 : Index := Scalar.indexCast arg0
  let c479_6821 : Index := 479#32
  ![v8763.toNat, 479]
def k0_off462 (i : grid0.Coords) : Fin 2 → Nat :=
  let arg0 : BitVec 32 := BitVec.ofNat 32 (i 0).val
  let v8777 : Index := Scalar.indexCast arg0
  let c484_6833 : Index := 484#32
  ![v8777.toNat, 484]
def k0_off463 (i : grid0.Coords) : Fin 2 → Nat :=
  let arg0 : BitVec 32 := BitVec.ofNat 32 (i 0).val
  let v8791 : Index := Scalar.indexCast arg0
  let c488_6845 : Index := 488#32
  ![v8791.toNat, 488]
def k0_off464 (i : grid0.Coords) : Fin 2 → Nat :=
  let arg0 : BitVec 32 := BitVec.ofNat 32 (i 0).val
  let v8805 : Index := Scalar.indexCast arg0
  let c491_6857 : Index := 491#32
  ![v8805.toNat, 491]
def k0_off465 (i : grid0.Coords) : Fin 2 → Nat :=
  let arg0 : BitVec 32 := BitVec.ofNat 32 (i 0).val
  let v8819 : Index := Scalar.indexCast arg0
  let c493_6869 : Index := 493#32
  ![v8819.toNat, 493]
def k0_off466 (i : grid0.Coords) : Fin 2 → Nat :=
  let arg0 : BitVec 32 := BitVec.ofNat 32 (i 0).val
  let v8910 : Index := Scalar.indexCast arg0
  let c30_6924 : Index := 30#32
  ![v8910.toNat, 30]
def k0_off467 (i : grid0.Coords) : Fin 2 → Nat :=
  let arg0 : BitVec 32 := BitVec.ofNat 32 (i 0).val
  let v8924 : Index := Scalar.indexCast arg0
  let c60_6936 : Index := 60#32
  ![v8924.toNat, 60]
def k0_off468 (i : grid0.Coords) : Fin 2 → Nat :=
  let arg0 : BitVec 32 := BitVec.ofNat 32 (i 0).val
  let v8938 : Index := Scalar.indexCast arg0
  let c89_6948 : Index := 89#32
  ![v8938.toNat, 89]
def k0_off469 (i : grid0.Coords) : Fin 2 → Nat :=
  let arg0 : BitVec 32 := BitVec.ofNat 32 (i 0).val
  let v8952 : Index := Scalar.indexCast arg0
  let c117_6960 : Index := 117#32
  ![v8952.toNat, 117]
def k0_off470 (i : grid0.Coords) : Fin 2 → Nat :=
  let arg0 : BitVec 32 := BitVec.ofNat 32 (i 0).val
  let v8966 : Index := Scalar.indexCast arg0
  let c144_6972 : Index := 144#32
  ![v8966.toNat, 144]
def k0_off471 (i : grid0.Coords) : Fin 2 → Nat :=
  let arg0 : BitVec 32 := BitVec.ofNat 32 (i 0).val
  let v8980 : Index := Scalar.indexCast arg0
  let c170_6984 : Index := 170#32
  ![v8980.toNat, 170]
def k0_off472 (i : grid0.Coords) : Fin 2 → Nat :=
  let arg0 : BitVec 32 := BitVec.ofNat 32 (i 0).val
  let v8994 : Index := Scalar.indexCast arg0
  let c195_6996 : Index := 195#32
  ![v8994.toNat, 195]
def k0_off473 (i : grid0.Coords) : Fin 2 → Nat :=
  let arg0 : BitVec 32 := BitVec.ofNat 32 (i 0).val
  let v9008 : Index := Scalar.indexCast arg0
  let c219_7008 : Index := 219#32
  ![v9008.toNat, 219]
def k0_off474 (i : grid0.Coords) : Fin 2 → Nat :=
  let arg0 : BitVec 32 := BitVec.ofNat 32 (i 0).val
  let v9022 : Index := Scalar.indexCast arg0
  let c242_7020 : Index := 242#32
  ![v9022.toNat, 242]
def k0_off475 (i : grid0.Coords) : Fin 2 → Nat :=
  let arg0 : BitVec 32 := BitVec.ofNat 32 (i 0).val
  let v9036 : Index := Scalar.indexCast arg0
  let c264_7032 : Index := 264#32
  ![v9036.toNat, 264]
def k0_off476 (i : grid0.Coords) : Fin 2 → Nat :=
  let arg0 : BitVec 32 := BitVec.ofNat 32 (i 0).val
  let v9050 : Index := Scalar.indexCast arg0
  let c285_7044 : Index := 285#32
  ![v9050.toNat, 285]
def k0_off477 (i : grid0.Coords) : Fin 2 → Nat :=
  let arg0 : BitVec 32 := BitVec.ofNat 32 (i 0).val
  let v9064 : Index := Scalar.indexCast arg0
  let c305_7056 : Index := 305#32
  ![v9064.toNat, 305]
def k0_off478 (i : grid0.Coords) : Fin 2 → Nat :=
  let arg0 : BitVec 32 := BitVec.ofNat 32 (i 0).val
  let v9078 : Index := Scalar.indexCast arg0
  let c324_7068 : Index := 324#32
  ![v9078.toNat, 324]
def k0_off479 (i : grid0.Coords) : Fin 2 → Nat :=
  let arg0 : BitVec 32 := BitVec.ofNat 32 (i 0).val
  let v9092 : Index := Scalar.indexCast arg0
  let c342_7080 : Index := 342#32
  ![v9092.toNat, 342]
def k0_off480 (i : grid0.Coords) : Fin 2 → Nat :=
  let arg0 : BitVec 32 := BitVec.ofNat 32 (i 0).val
  let v9106 : Index := Scalar.indexCast arg0
  let c359_7092 : Index := 359#32
  ![v9106.toNat, 359]
def k0_off481 (i : grid0.Coords) : Fin 2 → Nat :=
  let arg0 : BitVec 32 := BitVec.ofNat 32 (i 0).val
  let v9120 : Index := Scalar.indexCast arg0
  let c375_7104 : Index := 375#32
  ![v9120.toNat, 375]
def k0_off482 (i : grid0.Coords) : Fin 2 → Nat :=
  let arg0 : BitVec 32 := BitVec.ofNat 32 (i 0).val
  let v9134 : Index := Scalar.indexCast arg0
  let c390_7116 : Index := 390#32
  ![v9134.toNat, 390]
def k0_off483 (i : grid0.Coords) : Fin 2 → Nat :=
  let arg0 : BitVec 32 := BitVec.ofNat 32 (i 0).val
  let v9148 : Index := Scalar.indexCast arg0
  let c404_7128 : Index := 404#32
  ![v9148.toNat, 404]
def k0_off484 (i : grid0.Coords) : Fin 2 → Nat :=
  let arg0 : BitVec 32 := BitVec.ofNat 32 (i 0).val
  let v9162 : Index := Scalar.indexCast arg0
  let c417_7140 : Index := 417#32
  ![v9162.toNat, 417]
def k0_off485 (i : grid0.Coords) : Fin 2 → Nat :=
  let arg0 : BitVec 32 := BitVec.ofNat 32 (i 0).val
  let v9176 : Index := Scalar.indexCast arg0
  let c429_7152 : Index := 429#32
  ![v9176.toNat, 429]
def k0_off486 (i : grid0.Coords) : Fin 2 → Nat :=
  let arg0 : BitVec 32 := BitVec.ofNat 32 (i 0).val
  let v9190 : Index := Scalar.indexCast arg0
  let c440_7164 : Index := 440#32
  ![v9190.toNat, 440]
def k0_off487 (i : grid0.Coords) : Fin 2 → Nat :=
  let arg0 : BitVec 32 := BitVec.ofNat 32 (i 0).val
  let v9204 : Index := Scalar.indexCast arg0
  let c450_7176 : Index := 450#32
  ![v9204.toNat, 450]
def k0_off488 (i : grid0.Coords) : Fin 2 → Nat :=
  let arg0 : BitVec 32 := BitVec.ofNat 32 (i 0).val
  let v9218 : Index := Scalar.indexCast arg0
  let c459_7188 : Index := 459#32
  ![v9218.toNat, 459]
def k0_off489 (i : grid0.Coords) : Fin 2 → Nat :=
  let arg0 : BitVec 32 := BitVec.ofNat 32 (i 0).val
  let v9232 : Index := Scalar.indexCast arg0
  let c467_7200 : Index := 467#32
  ![v9232.toNat, 467]
def k0_off490 (i : grid0.Coords) : Fin 2 → Nat :=
  let arg0 : BitVec 32 := BitVec.ofNat 32 (i 0).val
  let v9246 : Index := Scalar.indexCast arg0
  let c474_7212 : Index := 474#32
  ![v9246.toNat, 474]
def k0_off491 (i : grid0.Coords) : Fin 2 → Nat :=
  let arg0 : BitVec 32 := BitVec.ofNat 32 (i 0).val
  let v9260 : Index := Scalar.indexCast arg0
  let c480_7224 : Index := 480#32
  ![v9260.toNat, 480]
def k0_off492 (i : grid0.Coords) : Fin 2 → Nat :=
  let arg0 : BitVec 32 := BitVec.ofNat 32 (i 0).val
  let v9274 : Index := Scalar.indexCast arg0
  let c485_7236 : Index := 485#32
  ![v9274.toNat, 485]
def k0_off493 (i : grid0.Coords) : Fin 2 → Nat :=
  let arg0 : BitVec 32 := BitVec.ofNat 32 (i 0).val
  let v9288 : Index := Scalar.indexCast arg0
  let c489_7248 : Index := 489#32
  ![v9288.toNat, 489]
def k0_off494 (i : grid0.Coords) : Fin 2 → Nat :=
  let arg0 : BitVec 32 := BitVec.ofNat 32 (i 0).val
  let v9302 : Index := Scalar.indexCast arg0
  let c492_7260 : Index := 492#32
  ![v9302.toNat, 492]
def k0_off495 (i : grid0.Coords) : Fin 2 → Nat :=
  let arg0 : BitVec 32 := BitVec.ofNat 32 (i 0).val
  let v9316 : Index := Scalar.indexCast arg0
  let c494_7272 : Index := 494#32
  ![v9316.toNat, 494]
def k0_off496 (i : grid0.Coords) : Fin 2 → Nat :=
  let arg0 : BitVec 32 := BitVec.ofNat 32 (i 0).val
  let v9330 : Index := Scalar.indexCast arg0
  let c495_7284 : Index := 495#32
  ![v9330.toNat, 495]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x496x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2048x4096 : Shape := ⟨3, ![2, 2048, 4096]⟩
abbrev S2x496x128x128 : Shape := ⟨4, ![2, 496, 128, 128]⟩
abbrev S2x496 : Shape := ⟨2, ![2, 496]⟩
abbrev S2x32x128x128 : Shape := ⟨4, ![2, 32, 128, 128]⟩
abbrev S2x32x2048 : Shape := ⟨3, ![2, 32, 2048]⟩
abbrev S1x2048x128 : Shape := ⟨3, ![1, 2048, 128]⟩
abbrev S2048x128 : Shape := ⟨2, ![2048, 128]⟩
abbrev S1x1x128x128 : Shape := ⟨4, ![1, 1, 128, 128]⟩
abbrev S128x128 : Shape := ⟨2, ![128, 128]⟩
abbrev S2048 : Shape := ⟨1, ![2048]⟩
abbrev S2048x1 : Shape := ⟨2, ![2048, 1]⟩
abbrev S1x246 : Shape := ⟨2, ![1, 246]⟩
abbrev S2048x246 : Shape := ⟨2, ![2048, 246]⟩
abbrev S1x2048 : Shape := ⟨2, ![1, 2048]⟩
abbrev S1x1x2048 : Shape := ⟨3, ![1, 1, 2048]⟩
abbrev S1x1 : Shape := ⟨2, ![1, 1]⟩
abbrev S2x2048x32 : Shape := ⟨3, ![2, 2048, 32]⟩

abbrev nBuf : Space → Nat
  | .hbm => 9
  | .vmem => 7
  | .smem => 1
  | _ => 0

abbrev bufTy : (tb : Table) → Fin (tcTables nBuf tb) → BufTy
  | .hbm, ⟨0, _⟩ => ⟨S2x2048x4096, .f32⟩
  | .hbm, ⟨1, _⟩ => ⟨S2x496x128x128, .f32⟩
  | .hbm, ⟨2, _⟩ => ⟨S2x496, .f32⟩
  | .hbm, ⟨3, _⟩ => ⟨S2x32x128x128, .f32⟩
  | .hbm, ⟨4, _⟩ => ⟨S2x496x128x128, .fp8e4m3⟩
  | .hbm, ⟨5, _⟩ => ⟨S2x2048x4096, .f32⟩
  | .hbm, ⟨6, _⟩ => ⟨S2x2048x4096, .fp8e4m3⟩
  | .hbm, ⟨7, _⟩ => ⟨S2x32x2048, .f32⟩
  | .hbm, ⟨8, _⟩ => ⟨S2x2048x32, .f32⟩
  | .local _ .vmem, ⟨0, _⟩ => ⟨S2x2048x4096, .f32⟩
  | .local _ .vmem, ⟨1, _⟩ => ⟨S2x496x128x128, .fp8e4m3⟩
  | .local _ .vmem, ⟨2, _⟩ => ⟨S2x32x128x128, .f32⟩
  | .local _ .vmem, ⟨3, _⟩ => ⟨S2x2048x4096, .f32⟩
  | .local _ .vmem, ⟨4, _⟩ => ⟨S2x2048x4096, .fp8e4m3⟩
  | .local _ .vmem, ⟨5, _⟩ => ⟨S2x32x2048, .f32⟩
  | .local _ .vmem, ⟨6, _⟩ => ⟨S2x2048x4096, .f32⟩
  | .local _ .smem, ⟨0, _⟩ => ⟨S2x496, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v26 : BitVec 32 := Scalar.muli arg8 c128_i32
  v26
@[reducible] def k0_t2_loop : Scf.Loop 32 :=
  let c0_i32_14 : BitVec 32 := 0#32
  let c2_i32_15 : BitVec 32 := 2#32
  let v28 : BitVec 32 := Scalar.addi c0_i32_14 c2_i32_15
  let c1_i32_16 : BitVec 32 := 1#32
  ⟨c0_i32_14, v28, c1_i32_16⟩
def k0_off1 (k0_t1 : Fin k0_t1_loop.trips) (k0_t2 : Fin k0_t2_loop.trips) : Fin 3 → Nat :=
  let c0_i32_14 : BitVec 32 := 0#32
  let c1_i32_16 : BitVec 32 := 1#32
  let arg9 : BitVec 32 := Scf.iv c0_i32_14 c1_i32_16 k0_t2
  let v29 : Index := Scalar.indexCast arg9
  let c0_18 : Index := 0#32
  let c0_i32 : BitVec 32 := 0#32
  let c1_i32 : BitVec 32 := 1#32
  let arg8 : BitVec 32 := Scf.iv c0_i32 c1_i32 k0_t1
  let c128_i32 : BitVec 32 := 128#32
  let v26 : BitVec 32 := Scalar.muli arg8 c128_i32
  let v27 : BitVec 32 := v26
  let v30 : Index := Scalar.indexCast v27
  ![v29.toNat, 0, v30.toNat]
def k0_off2 (k0_t1 : Fin k0_t1_loop.trips) (k0_t2 : Fin k0_t2_loop.trips) : Fin 4 → Nat :=
  let c0_i32_14 : BitVec 32 := 0#32
  let c1_i32_16 : BitVec 32 := 1#32
  let arg9 : BitVec 32 := Scf.iv c0_i32_14 c1_i32_16 k0_t2
  let v33 : Index := Scalar.indexCast arg9
  let c0_i32 : BitVec 32 := 0#32
  let c1_i32 : BitVec 32 := 1#32
  let arg8 : BitVec 32 := Scf.iv c0_i32 c1_i32 k0_t1
  let v34 : Index := Scalar.indexCast arg8
  let c0_19 : Index := 0#32
  let c0_20 : Index := 0#32
  ![v33.toNat, v34.toNat, 0, 0]
def k0_off3 (k0_t1 : Fin k0_t1_loop.trips) (k0_t2 : Fin k0_t2_loop.trips) : Fin 3 → Nat :=
  let c0_i32_14 : BitVec 32 := 0#32
  let c1_i32_16 : BitVec 32 := 1#32
  let arg9 : BitVec 32 := Scf.iv c0_i32_14 c1_i32_16 k0_t2
  let v84 : Index := Scalar.indexCast arg9
  let c0_i32 : BitVec 32 := 0#32
  let c1_i32 : BitVec 32 := 1#32
  let arg8 : BitVec 32 := Scf.iv c0_i32 c1_i32 k0_t1
  let v85 : Index := Scalar.indexCast arg8
  let c0_34 : Index := 0#32
  ![v84.toNat, v85.toNat, 0]
@[reducible] def k0_t3_loop : Scf.Loop 32 :=
  let c0_i32_35 : BitVec 32 := 0#32
  let c32_i32_36 : BitVec 32 := 32#32
  let v89 : BitVec 32 := Scalar.addi c0_i32_35 c32_i32_36
  let c1_i32_37 : BitVec 32 := 1#32
  ⟨c0_i32_35, v89, c1_i32_37⟩
def k0_cond1 (k0_t1 : Fin k0_t1_loop.trips) (k0_t3 : Fin k0_t3_loop.trips) : BitVec 1 :=
  let c0_i32_35 : BitVec 32 := 0#32
  let c1_i32_37 : BitVec 32 := 1#32
  let arg10 : BitVec 32 := Scf.iv c0_i32_35 c1_i32_37 k0_t3
  let c0_i32 : BitVec 32 := 0#32
  let c1_i32 : BitVec 32 := 1#32
  let arg8 : BitVec 32 := Scf.iv c0_i32 c1_i32 k0_t1
  let v90 : BitVec 1 := Scalar.cmpi .sgt arg10 arg8
  let v91 : BitVec 32 := Scalar.extui v90
  let c0_i32_39 : BitVec 32 := 0#32
  let v92 : BitVec 1 := Scalar.cmpi .ne v91 c0_i32_39
  v92

def k0_mult2 (k0_t3 : Fin k0_t3_loop.trips) : BitVec 32 :=
  let c0_i32_35 : BitVec 32 := 0#32
  let c1_i32_37 : BitVec 32 := 1#32
  let arg10 : BitVec 32 := Scf.iv c0_i32_35 c1_i32_37 k0_t3
  let c128_i32_41 : BitVec 32 := 128#32
  let v96 : BitVec 32 := Scalar.muli arg10 c128_i32_41
  v96
def k0_off4 (k0_t1 : Fin k0_t1_loop.trips) (k0_t2 : Fin k0_t2_loop.trips) (k0_t3 : Fin k0_t3_loop.trips) : Fin 4 → Nat :=
  let c0_i32_14 : BitVec 32 := 0#32
  let c1_i32_16 : BitVec 32 := 1#32
  let arg9 : BitVec 32 := Scf.iv c0_i32_14 c1_i32_16 k0_t2
  let v98 : Index := Scalar.indexCast arg9
  let c0_i32 : BitVec 32 := 0#32
  let c1_i32 : BitVec 32 := 1#32
  let arg8 : BitVec 32 := Scf.iv c0_i32 c1_i32 k0_t1
  let c32_i32_6 : BitVec 32 := 32#32
  let v5 : BitVec 32 := Scalar.muli arg8 c32_i32_6
  let c1_i32_7 : BitVec 32 := 1#32
  let v6 : BitVec 32 := Scalar.addi arg8 c1_i32_7
  let v7 : BitVec 32 := Scalar.muli arg8 v6
  let c0_i32_8 : BitVec 32 := 0#32
  let v9 : BitVec 1 := Scalar.cmpi .sgt v7 c0_i32_8
  let v10 : BitVec 32 := Scalar.extui v9
  let c0_i32_9 : BitVec 32 := 0#32
  let v11 : BitVec 1 := Scalar.cmpi .slt v7 c0_i32_9
  let v12 : BitVec 32 := Scalar.extui v11
  let v13 : BitVec 32 := Scalar.subi v10 v12
  let c2_i32 : BitVec 32 := 2#32
  let c0_i32_10 : BitVec 32 := 0#32
  let v14 : BitVec 1 := Scalar.cmpi .sgt c2_i32 c0_i32_10
  let v15 : BitVec 32 := Scalar.extui v14
  let c0_i32_11 : BitVec 32 := 0#32
  let v16 : BitVec 1 := Scalar.cmpi .slt c2_i32 c0_i32_11
  let v17 : BitVec 32 := Scalar.extui v16
  let v18 : BitVec 32 := Scalar.subi v15 v17
  let v19 : BitVec 1 := Scalar.cmpi .ne v13 v18
  let v20 : BitVec 32 := Scalar.remsi v7 c2_i32
  let c0_i32_12 : BitVec 32 := 0#32
  let v21 : BitVec 1 := Scalar.cmpi .ne v20 c0_i32_12
  let v22 : BitVec 1 := Scalar.andi v19 v21
  let v8 : BitVec 32 := Scalar.divsi v7 c2_i32
  let c1_i32_13 : BitVec 32 := 1#32
  let v23 : BitVec 32 := Scalar.subi v8 c1_i32_13
  let v24 : BitVec 32 := Scalar.select v22 v23 v8
  let v25 : BitVec 32 := Scalar.subi v5 v24
  let c0_i32_35 : BitVec 32 := 0#32
  let c1_i32_37 : BitVec 32 := 1#32
  let arg10 : BitVec 32 := Scf.iv c0_i32_35 c1_i32_37 k0_t3
  let v93 : BitVec 32 := Scalar.addi v25 arg10
  let v94 : BitVec 32 := Scalar.subi v93 arg8
  let c1_i32_40 : BitVec 32 := 1#32
  let v95 : BitVec 32 := Scalar.subi v94 c1_i32_40
  let v99 : Index := Scalar.indexCast v95
  let c0_42 : Index := 0#32
  let c0_43 : Index := 0#32
  ![v98.toNat, v99.toNat, 0, 0]
def k0_off5 (k0_t2 : Fin k0_t2_loop.trips) (k0_t3 : Fin k0_t3_loop.trips) : Fin 3 → Nat :=
  let c0_i32_14 : BitVec 32 := 0#32
  let c1_i32_16 : BitVec 32 := 1#32
  let arg9 : BitVec 32 := Scf.iv c0_i32_14 c1_i32_16 k0_t2
  let v103 : Index := Scalar.indexCast arg9
  let c0_45 : Index := 0#32
  let c0_i32_35 : BitVec 32 := 0#32
  let c1_i32_37 : BitVec 32 := 1#32
  let arg10 : BitVec 32 := Scf.iv c0_i32_35 c1_i32_37 k0_t3
  let c128_i32_41 : BitVec 32 := 128#32
  let v96 : BitVec 32 := Scalar.muli arg10 c128_i32_41
  let v97 : BitVec 32 := v96
  let v104 : Index := Scalar.indexCast v97
  ![v103.toNat, 0, v104.toNat]
def k0_off6 (k0_t1 : Fin k0_t1_loop.trips) (k0_t2 : Fin k0_t2_loop.trips) (k0_t3 : Fin k0_t3_loop.trips) : Fin 2 → Nat :=
  let c0_i32_14 : BitVec 32 := 0#32
  let c1_i32_16 : BitVec 32 := 1#32
  let arg9 : BitVec 32 := Scf.iv c0_i32_14 c1_i32_16 k0_t2
  let v107 : Index := Scalar.indexCast arg9
  let c0_i32 : BitVec 32 := 0#32
  let c1_i32 : BitVec 32 := 1#32
  let arg8 : BitVec 32 := Scf.iv c0_i32 c1_i32 k0_t1
  let c32_i32_6 : BitVec 32 := 32#32
  let v5 : BitVec 32 := Scalar.muli arg8 c32_i32_6
  let c1_i32_7 : BitVec 32 := 1#32
  let v6 : BitVec 32 := Scalar.addi arg8 c1_i32_7
  let v7 : BitVec 32 := Scalar.muli arg8 v6
  let c0_i32_8 : BitVec 32 := 0#32
  let v9 : BitVec 1 := Scalar.cmpi .sgt v7 c0_i32_8
  let v10 : BitVec 32 := Scalar.extui v9
  let c0_i32_9 : BitVec 32 := 0#32
  let v11 : BitVec 1 := Scalar.cmpi .slt v7 c0_i32_9
  let v12 : BitVec 32 := Scalar.extui v11
  let v13 : BitVec 32 := Scalar.subi v10 v12
  let c2_i32 : BitVec 32 := 2#32
  let c0_i32_10 : BitVec 32 := 0#32
  let v14 : BitVec 1 := Scalar.cmpi .sgt c2_i32 c0_i32_10
  let v15 : BitVec 32 := Scalar.extui v14
  let c0_i32_11 : BitVec 32 := 0#32
  let v16 : BitVec 1 := Scalar.cmpi .slt c2_i32 c0_i32_11
  let v17 : BitVec 32 := Scalar.extui v16
  let v18 : BitVec 32 := Scalar.subi v15 v17
  let v19 : BitVec 1 := Scalar.cmpi .ne v13 v18
  let v20 : BitVec 32 := Scalar.remsi v7 c2_i32
  let c0_i32_12 : BitVec 32 := 0#32
  let v21 : BitVec 1 := Scalar.cmpi .ne v20 c0_i32_12
  let v22 : BitVec 1 := Scalar.andi v19 v21
  let v8 : BitVec 32 := Scalar.divsi v7 c2_i32
  let c1_i32_13 : BitVec 32 := 1#32
  let v23 : BitVec 32 := Scalar.subi v8 c1_i32_13
  let v24 : BitVec 32 := Scalar.select v22 v23 v8
  let v25 : BitVec 32 := Scalar.subi v5 v24
  let c0_i32_35 : BitVec 32 := 0#32
  let c1_i32_37 : BitVec 32 := 1#32
  let arg10 : BitVec 32 := Scf.iv c0_i32_35 c1_i32_37 k0_t3
  let v93 : BitVec 32 := Scalar.addi v25 arg10
  let v94 : BitVec 32 := Scalar.subi v93 arg8
  let c1_i32_40 : BitVec 32 := 1#32
  let v95 : BitVec 32 := Scalar.subi v94 c1_i32_40
  let v108 : Index := Scalar.indexCast v95
  ![v107.toNat, v108.toNat]
abbrev stage0_0 : Fin 1 → Memref sig .tc .vmem S2x2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x496x128x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2x496 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Math.Finite.lean ====
/- Extended reals that are real numbers, and the operations that keep them so. -/
module

public import Idealize.ShloMosaic.Lib.Pointwise

@[expose] public section

noncomputable section

namespace Cert.Math

open Idealize.ShloMosaic

/-- `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem IsReal.ne_top {x : EReal} (h : IsReal x) : x ≠ ⊤ := (isReal_iff.mp h).1
theorem IsReal.ne_bot {x : EReal} (h : IsReal x) : x ≠ ⊥ := (isReal_iff.mp h).2
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.neg {x : EReal} : IsReal x → IsReal (-x) := by
  rintro ⟨a, rfl⟩; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.sum {ι : Type} (s : Finset ι) (f : ι → EReal) (h : ∀ i ∈ s, IsReal (f i)) : IsReal (∑ i ∈ s, f i) :=
  Finset.sum_induction f IsReal (fun _ _ => IsReal.add) isReal_zero h

/-- A real number less itself is zero. -/
theorem IsReal.sub_self {x : EReal} : IsReal x → x - x = 0 := by
  rintro ⟨a, rfl⟩; rw [← EReal.coe_sub, _root_.sub_self]; rfl

/-- Clipping between two real numbers gives a real number. -/
theorem isReal_clip {a b x : EReal} (ha : IsReal a) (hb : IsReal b) : IsReal (min b (max a x)) := by
  rw [isReal_iff]
  constructor
  · exact ne_of_lt ((min_le_left _ _).trans_lt (lt_top_iff_ne_top.mpr hb.ne_top))
  · rcases min_choice b (max a x) with h | h <;> rw [h]
    · exact hb.ne_bot
    · exact ne_of_gt ((bot_lt_iff_ne_bot.mpr ha.ne_bot).trans_le (le_max_left _ _))

end Cert.Math
-- ==== Proof.Math.Scale.lean ====
/- The scale of a block's row: the power of two one above the greatest power of two that is at most `v`. The two ways in which
   the programs find it: the greatest word of a ladder of words, and the greatest number of a ladder of numbers. -/
module

public import proofs.«01_k».proof.Proof.Math.Finite

@[expose] public section

set_option maxRecDepth 16384

noncomputable section

namespace Cert.Math

open Idealize.ShloMosaic

/-- The power of two with the exponent field `k`. -/
def pw (k : ℕ) : EReal := (((2 : ℝ) ^ ((k : ℤ) - 127) : ℝ) : EReal)

/-- The f32 word of that power. -/
def wd (k : ℕ) : BitVec 32 := BitVec.ofNat 32 (k * 8388608)

open Classical in
/-- The exponent field of the greatest of the powers that is at most `v`; zero if there is none. -/
def level (v : EReal) : ℕ := Nat.findGreatest (fun k => pw k ≤ v) 246

theorem level_le (v : EReal) : level v ≤ 246 := by classical exact Nat.findGreatest_le _
theorem pw_level {v : EReal} (h : level v ≠ 0) : pw (level v) ≤ v := by
  classical exact Nat.findGreatest_of_ne_zero (P := fun k => pw k ≤ v) (n := 246) rfl h
theorem le_level {v : EReal} {k : ℕ} (hk : k ≤ 246) (h : pw k ≤ v) : k ≤ level v := by
  classical exact Nat.le_findGreatest (P := fun k => pw k ≤ v) hk h

theorem pw_le_pw {j k : ℕ} (h : j ≤ k) : pw j ≤ pw k := by
  unfold pw
  rw [EReal.coe_le_coe_iff]
  exact zpow_le_zpow_right₀ (by norm_num) (by omega)
theorem pw_pos (k : ℕ) : 0 < pw k := by
  unfold pw; rw [← EReal.coe_zero, EReal.coe_lt_coe_iff]; positivity

/-- The scale at `v`, and its inverse. -/
def scaleOf (v : EReal) : EReal := if level v = 0 then 1 else (((2 : ℝ) ^ ((level v : ℤ) - 126) : ℝ) : EReal)
def invOf (v : EReal) : EReal := if level v = 0 then 1 else (((2 : ℝ) ^ (126 - (level v : ℤ)) : ℝ) : EReal)

theorem isReal_scaleOf (v : EReal) : IsReal (scaleOf v) := by
  unfold scaleOf; split
  · exact isReal_one
  · exact isReal_coe _

/-- The inverse is the quotient of one by the scale. -/
theorem div_scaleOf (v : EReal) : Ideal.div 1 (scaleOf v) = invOf v := by
  unfold Ideal.div scaleOf invOf
  by_cases h0 : level v = 0
  · rw [if_pos h0, if_pos h0, if_neg one_ne_zero, one_mul, ← EReal.coe_one, ← EReal.coe_inv, inv_one]
  · have h2 : (0 : ℝ) < (2 : ℝ) ^ ((level v : ℤ) - 126) := by positivity
    have h3 : (((2 : ℝ) ^ ((level v : ℤ) - 126) : ℝ) : EReal) ≠ 0 := by
      rw [← EReal.coe_zero, Ne, EReal.coe_eq_coe_iff]; exact h2.ne'
    rw [if_neg h0, if_neg h0, if_neg h3, one_mul, ← EReal.coe_inv, ← zpow_neg]; congr 2; ring

/-! ## Words -/

theorem wd_fields : ∀ k : Fin 256, ((wd k.val).extractLsb' 31 1 == 1#1) = false ∧ ((wd k.val).extractLsb' 23 8).toNat = k.val
    ∧ ((wd k.val).extractLsb' 0 23).toNat = 0 := by decide +kernel

/-- The word `wd k` denotes the power `pw k`. -/
theorem ofBits_wd {k : ℕ} (h : 1 ≤ k) (h' : k ≤ 254) : Ideal.ofBits .f32 (wd k) = pw k := by
  obtain ⟨h1, h2, h3⟩ := wd_fields ⟨k, by omega⟩
  simp only at h1 h2 h3
  show Ideal.ieee 8 23 (wd k) = _
  unfold Ideal.ieee
  simp only [Nat.reduceAdd, h1, h2, h3]
  rw [if_neg (by norm_num; omega), if_neg (by omega)]
  unfold pw
  congr 1
  have : ((2 ^ 23 + 0 : ℕ) : ℝ) = (2 : ℝ) ^ (23 : ℤ) := by norm_num
  rw [this]
  simp only [Bool.false_eq_true, if_false, one_mul]
  rw [← zpow_add₀ (by norm_num)]
  congr 1
  norm_num

theorem ofBits_wd_zero : Ideal.ofBits .f32 (wd 0) = 0 := by
  have : wd 0 = 0x00000000#32 := by decide
  rw [this]; exact Ideal.ofBits_zero_f32
theorem ofBits_wd_top : Ideal.ofBits .f32 (wd 255) = ⊤ := by
  show Ideal.ieee 8 23 (wd 255) = _
  obtain ⟨h1, h2, h3⟩ := wd_fields ⟨255, by omega⟩
  simp only at h1 h2 h3
  unfold Ideal.ieee
  simp only [Nat.reduceAdd, h1, h2, h3]
  norm_num

/-- The greatest signed word of a family that has one. -/
theorem fold_maxsi {n : ℕ} (f : Fin n → BitVec 32) (k0 : Fin n) (h : ∀ k, (f k).toInt ≤ (f k0).toInt) :
    Finset.fold IntOp.maxsi (2147483648#32) f Finset.univ = f k0 := by
  have hmap : ∀ x y : BitVec 32, (IntOp.maxsi x y).toInt = max x.toInt y.toInt := by
    intro x y
    unfold IntOp.maxsi
    simp only [BitVec.slt_iff_toInt_lt]
    split_ifs with h <;> omega
  have hf : (Finset.fold IntOp.maxsi (2147483648#32) f Finset.univ).toInt = Finset.fold max (2147483648#32 : BitVec 32).toInt (fun k => (f k).toInt) Finset.univ :=
    (Finset.fold_hom (m := BitVec.toInt) (op := IntOp.maxsi) (op' := max) (fun x y => hmap x y)).symm
  apply BitVec.eq_of_toInt_eq
  rw [hf]
  apply le_antisymm
  · rw [Finset.fold_max_le]
    exact ⟨by have := BitVec.le_toInt (f k0); simpa using this, fun k _ => h k⟩
  · rw [Finset.le_fold_max]
    exact Or.inr ⟨k0, Finset.mem_univ _, le_rfl⟩

/-- The kernel's ladder: rung `k` has the exponent field `k` up to 246, that of 246 up to 254, and at the last the field of infinity. -/
def rung (k : Fin 256) : BitVec 32 := if k.val < 255 then wd (min k.val 246) else wd 255

theorem toInt_wd : ∀ k : Fin 247, (wd k.val).toInt = k.val * 8388608 := by decide +kernel

/-- The greatest rung whose value is at most `v`. -/
theorem fold_rungs {v : EReal} (h0 : 0 ≤ v) (h1 : v ≠ ⊤) :
    Finset.fold IntOp.maxsi (2147483648#32) (fun k : Fin 256 => if Ideal.ofBits .f32 (rung k) ≤ v then rung k else 0#32) Finset.univ = wd (level v) := by
  have hl := level_le v
  have hk0 : (if Ideal.ofBits .f32 (rung ⟨level v, by omega⟩) ≤ v then rung ⟨level v, by omega⟩ else 0#32) = wd (level v) := by
    have hr : rung ⟨level v, by omega⟩ = wd (level v) := by
      unfold rung; rw [if_pos (by show level v < 255; omega)]; congr 1; show min (level v) 246 = _; omega
    rw [hr]
    by_cases hz : level v = 0
    · rw [hz, ofBits_wd_zero, if_pos h0]
    · rw [ofBits_wd (by omega) (by omega), if_pos (pw_level hz)]
  rw [← hk0]
  refine fold_maxsi (fun k : Fin 256 => if Ideal.ofBits .f32 (rung k) ≤ v then rung k else 0#32) ⟨level v, by omega⟩ ?_
  intro k
  show (if _ then _ else _ : BitVec 32).toInt ≤ (if _ then _ else _ : BitVec 32).toInt
  rw [hk0, toInt_wd ⟨level v, by omega⟩]
  split
  · rename_i hle
    unfold rung at hle ⊢
    by_cases hk : k.val < 255
    · rw [if_pos hk] at hle ⊢
      have e := toInt_wd ⟨min k.val 246, by omega⟩
      simp only at e
      rw [e]
      by_cases hz : k.val = 0
      · simp only [hz]; simp
      · rw [ofBits_wd (by omega) (by omega)] at hle
        have := le_level (by omega) hle
        simp only; omega
    · rw [if_neg hk] at hle
      rw [ofBits_wd_top] at hle
      exact absurd (top_le_iff.mp hle) h1
  · simp

/-- The reference's ladder: the greatest of zero and the powers that are at most `v`. -/
theorem fold_powers (v : EReal) :
    Finset.fold max ⊥ (fun k : Fin 246 => if pw (k.val + 1) ≤ v then pw (k.val + 1) else 0) Finset.univ = if level v = 0 then 0 else pw (level v) := by
  have hl := level_le v
  apply le_antisymm
  · rw [Finset.fold_max_le]
    refine ⟨bot_le, fun k _ => ?_⟩
    have hk := k.isLt
    split
    · rename_i h
      have := le_level (by omega) h
      rw [if_neg (by omega)]
      exact pw_le_pw this
    · split
      · exact le_rfl
      · exact (pw_pos _).le
  · rw [Finset.le_fold_max]
    refine Or.inr ?_
    by_cases hz : level v = 0
    · rw [if_pos hz]
      refine ⟨0, Finset.mem_univ _, ?_⟩
      split
      · exact (pw_pos _).le
      · exact le_rfl
    · rw [if_neg hz]
      refine ⟨⟨level v - 1, by omega⟩, Finset.mem_univ _, ?_⟩
      have he : level v - 1 + 1 = level v := by omega
      simp only [he]
      rw [if_pos (pw_level hz)]

/-- Twice that greatest power is the scale, one where there is none. -/
theorem scaleOf_eq (v : EReal) :
    (if (if level v = 0 then (0 : EReal) else pw (level v)) = 0 then (1 : EReal) else 2 * (if level v = 0 then 0 else pw (level v))) = scaleOf v := by
  unfold scaleOf
  by_cases hz : level v = 0
  · rw [if_pos hz, if_pos hz, if_pos rfl]
  · rw [if_neg hz, if_neg hz, if_neg (pw_pos _).ne']
    unfold pw
    rw [show (2 : EReal) = ((2 : ℝ) : EReal) from rfl, ← EReal.coe_mul]
    congr 1
    rw [show ((level v : ℤ) - 126) = 1 + ((level v : ℤ) - 127) by ring, zpow_add₀ (by norm_num), zpow_one]

/-- The three facts about the words of the ladder that the kernel's scale rests on. -/
theorem wd_arith : ∀ l : Fin 247, IntOp.andi (IntOp.cmpi .ne (wd l.val) 0#32) (IntOp.cmpi .ne (wd l.val) 2139095040#32) = (if l.val = 0 then 0#1 else 1#1)
    ∧ IntOp.addi (wd l.val) 8388608#32 = wd (l.val + 1) ∧ IntOp.subi (2122317824#32) (wd l.val) = wd (253 - l.val) := by decide +kernel

/-- The kernel's scale from the exponent field. -/
theorem scale_word (v : EReal) :
    Scalar.select (IntOp.andi (IntOp.cmpi .ne (wd (level v)) 0#32) (IntOp.cmpi .ne (wd (level v)) 2139095040#32))
      (Ideal.ofBits .f32 (IntOp.addi (wd (level v)) 8388608#32)) (1 : EReal) = scaleOf v := by
  have hl := level_le v
  obtain ⟨h1, h2, _⟩ := wd_arith ⟨level v, by omega⟩
  simp only at h1 h2
  rw [h1, h2, ofBits_wd (by omega) (by omega)]
  unfold scaleOf Scalar.select pw
  by_cases hz : level v = 0
  · rw [if_pos hz, if_pos hz]; rfl
  · rw [if_neg hz, if_neg hz, if_pos (by rfl)]; congr 2; push_cast; ring

/-- The kernel's inverse scale from the exponent field. -/
theorem inv_word (v : EReal) :
    Scalar.select (IntOp.andi (IntOp.cmpi .ne (wd (level v)) 0#32) (IntOp.cmpi .ne (wd (level v)) 2139095040#32))
      (Ideal.ofBits .f32 (IntOp.subi (2122317824#32) (wd (level v)))) (1 : EReal) = invOf v := by
  have hl := level_le v
  obtain ⟨h1, _, h3⟩ := wd_arith ⟨level v, by omega⟩
  simp only at h1 h3
  rw [h1, h3, ofBits_wd (by omega) (by omega)]
  unfold invOf Scalar.select pw
  by_cases hz : level v = 0
  · rw [if_pos hz, if_pos hz]; rfl
  · rw [if_neg hz, if_neg hz, if_pos (by rfl)]; congr 2; rw [Nat.cast_sub (by omega)]; push_cast; ring

end Cert.Math
-- ==== Proof.Math.Row.lean ====
/- One row of the right-hand side solved block by block, as both programs solve it: the quantities they compute, over the extended
   reals, and that they are all real numbers when the inputs are. -/
module

public import proofs.«01_k».proof.Proof.Math.Scale

@[expose] public section

noncomputable section

namespace Cert.Math

open Idealize.ShloMosaic

/-- The number from which a block's scale is found: its largest absolute value, times the f32 nearest to 1/448. -/
def amaxOf (x : Fin 128 → EReal) : EReal :=
  Finset.fold max ⊥ (fun r => max (x r) (-x r)) Finset.univ * Ideal.ofBits .f32 991054117#32

/-- The scale of a block, and its codes. -/
def scaleAt (x : Fin 128 → EReal) : EReal := scaleOf (amaxOf x)
def codeAt (x : Fin 128 → EReal) (r : Fin 128) : EReal :=
  min (Ideal.ofBits .f32 1138753536#32) (max (Ideal.ofBits .f32 3286237184#32) (x r * invOf (amaxOf x)))

/-- What the solution of one row is computed from. -/
structure Row where
  /-- The right-hand side, by blocks. -/
  rhs : ℕ → Fin 128 → EReal
  /-- The tile of block column `j` and block row `k`, its row and its column. -/
  l : ℕ → ℕ → Fin 128 → Fin 128 → EReal
  /-- That tile's scale. -/
  ts : ℕ → ℕ → EReal
  /-- The inverse of a diagonal block, its row and its column. -/
  d : ℕ → Fin 128 → Fin 128 → EReal

/-- The place in the packed triangle of the tile of block column `j` and block row `k`. -/
def tile (j k : ℕ) : ℕ := j * 32 - j * (j + 1) / 2 + k - j - 1

theorem tile_lt {j k : ℕ} (hk : k < 32) (hj : j < k) : tile j k < 496 := by
  have h : ∀ k : Fin 32, ∀ j : Fin 32, j.val < k.val → tile j.val k.val < 496 := by decide
  exact h ⟨k, hk⟩ ⟨j, hj.trans hk⟩ hj

/-- A row's data, from the row of the right-hand side and its batch's tiles, scales and inverses. -/
def rowOf (rhs : Fin 4096 → EReal) (l : Fin 496 → Fin 128 → Fin 128 → EReal) (ts : Fin 496 → EReal) (d : Fin 32 → Fin 128 → Fin 128 → EReal) : Row where
  rhs k r := if h : k * 128 + r.val < 4096 then rhs ⟨k * 128 + r.val, h⟩ else 0
  l j k r c := if h : tile j k < 496 then l ⟨tile j k, h⟩ r c else 0
  ts j k := if h : tile j k < 496 then ts ⟨tile j k, h⟩ else 0
  d k r c := if h : k < 32 then d ⟨k, h⟩ r c else 0

namespace Row

variable (A : Row)

/-- The block `k` solved, from what is left of the right-hand side there. -/
def solve (k : ℕ) (s : Fin 128 → EReal) (r : Fin 128) : EReal := ∑ c : Fin 128, A.d k r c * s c

/-- What is left of the right-hand side at block `k` after the contributions of the solved blocks before `m` are taken off. -/
def left : ℕ → ℕ → Fin 128 → EReal
  | 0, k, r => A.rhs k r
  | m + 1, k, r => left m k r
      - (∑ c : Fin 128, A.l m k r c * codeAt (A.solve m (left m m)) c) * (scaleAt (A.solve m (left m m)) * A.ts m k)

/-- The solution's block `k`. -/
def x (k : ℕ) : Fin 128 → EReal := A.solve k (A.left k k)
/-- Its codes. -/
def code (k : ℕ) : Fin 128 → EReal := codeAt (A.x k)
/-- Its scale. -/
def scale (k : ℕ) : EReal := scaleAt (A.x k)

theorem left_zero (k : ℕ) (r : Fin 128) : A.left 0 k r = A.rhs k r := rfl
theorem left_succ (m k : ℕ) (r : Fin 128) :
    A.left (m + 1) k r = A.left m k r - (∑ c : Fin 128, A.l m k r c * A.code m c) * (A.scale m * A.ts m k) := rfl

/-- The other order in which a contribution is scaled and taken off. -/
theorem left_succ' (m k : ℕ) (r : Fin 128) :
    A.left m k r + (0 - ((∑ c : Fin 128, A.code m c * A.l m k r c) * A.ts m k) * A.scale m) = A.left (m + 1) k r := by
  rw [left_succ, zero_sub, ← sub_eq_add_neg, mul_assoc, mul_comm (A.ts m k)]
  congr 2
  exact Finset.sum_congr rfl fun c _ => mul_comm _ _

end Row

/-! ## Real numbers -/

theorem real_lo : IsReal (Ideal.ofBits .f32 3286237184#32) := by
  show IsReal (Ideal.ieee 8 23 3286237184#32)
  unfold Ideal.ieee
  simp only [show ((3286237184#32).extractLsb' 23 8).toNat = 135 by decide]
  rw [if_neg (by norm_num), if_neg (by norm_num)]
  exact isReal_coe _
theorem real_hi : IsReal (Ideal.ofBits .f32 1138753536#32) := by
  show IsReal (Ideal.ieee 8 23 1138753536#32)
  unfold Ideal.ieee
  simp only [show ((1138753536#32).extractLsb' 23 8).toNat = 135 by decide]
  rw [if_neg (by norm_num), if_neg (by norm_num)]
  exact isReal_coe _

/-- A code is a real number, whatever is clipped. -/
theorem real_codeAt (x : Fin 128 → EReal) (r : Fin 128) : IsReal (codeAt x r) := isReal_clip real_lo real_hi

/-- The factor 1/448 is a positive real number. -/
theorem real_factor : ∃ r : ℝ, 0 < r ∧ Ideal.ofBits .f32 991054117#32 = (r : EReal) := by
  refine ⟨(2 ^ 23 + 1198373 : ℕ) * (2 : ℝ) ^ ((118 : ℤ) - (2 ^ (8 - 1) - 1) - 23), by positivity, ?_⟩
  show Ideal.ieee 8 23 991054117#32 = _
  unfold Ideal.ieee
  simp only [show ((991054117#32).extractLsb' 23 8).toNat = 118 by decide, show ((991054117#32).extractLsb' 0 23).toNat = 1198373 by decide,
    show ((991054117#32).extractLsb' (8 + 23) 1 == 1#1) = false by decide]
  rw [if_neg (by norm_num), if_neg (by norm_num)]
  simp only [Bool.false_eq_true, if_false, one_mul]
  rfl

/-- The number the scale is found from is not negative, and not infinite when the block is of real numbers. -/
theorem amaxOf_nonneg (x : Fin 128 → EReal) : 0 ≤ amaxOf x := by
  obtain ⟨q, hq, he⟩ := real_factor
  unfold amaxOf
  rw [he]
  refine mul_nonneg ?_ (by exact_mod_cast hq.le)
  rw [Finset.le_fold_max]
  refine Or.inr ⟨0, Finset.mem_univ _, ?_⟩
  rcases le_total 0 (x 0) with h | h
  · exact h.trans (le_max_left _ _)
  · exact (EReal.neg_nonneg.mpr h).trans (le_max_right _ _)
theorem amaxOf_ne_top {x : Fin 128 → EReal} (h : ∀ r, IsReal (x r)) : amaxOf x ≠ ⊤ := by
  obtain ⟨q, hq, he⟩ := real_factor
  unfold amaxOf
  rw [he]
  have h1 : Finset.fold max ⊥ (fun r => max (x r) (-x r)) Finset.univ < (⊤ : EReal) := by
    rw [Finset.fold_max_lt]
    exact ⟨bot_lt_top, fun r _ => lt_top_iff_ne_top.mpr ((h r).max (h r).neg).ne_top⟩
  have h0 : (0 : EReal) ≤ Finset.fold max ⊥ (fun r => max (x r) (-x r)) Finset.univ := by
    rw [Finset.le_fold_max]
    refine Or.inr ⟨0, Finset.mem_univ _, ?_⟩
    rcases le_total 0 (x 0) with h | h
    · exact h.trans (le_max_left _ _)
    · exact (EReal.neg_nonneg.mpr h).trans (le_max_right _ _)
  have hr : IsReal (Finset.fold max ⊥ (fun r => max (x r) (-x r)) Finset.univ) :=
    isReal_iff.mpr ⟨h1.ne, fun hb => by rw [hb] at h0; exact absurd h0 (by simp)⟩
  exact (hr.mul (isReal_coe q)).ne_top

namespace Row

variable (A : Row)

/-- The inputs are real numbers. -/
structure Real : Prop where
  rhs : ∀ k r, IsReal (A.rhs k r)
  l : ∀ j k r c, IsReal (A.l j k r c)
  ts : ∀ j k, IsReal (A.ts j k)
  d : ∀ k r c, IsReal (A.d k r c)

theorem real_rowOf {rhs : Fin 4096 → EReal} {l : Fin 496 → Fin 128 → Fin 128 → EReal} {ts : Fin 496 → EReal} {d : Fin 32 → Fin 128 → Fin 128 → EReal}
    (h1 : ∀ p, IsReal (rhs p)) (h2 : ∀ t r c, IsReal (l t r c)) (h3 : ∀ t, IsReal (ts t)) (h4 : ∀ k r c, IsReal (d k r c)) : (rowOf rhs l ts d).Real where
  rhs k r := by unfold rowOf; dsimp only; split <;> [exact h1 _; exact isReal_zero]
  l j k r c := by unfold rowOf; dsimp only; split <;> [exact h2 _ _ _; exact isReal_zero]
  ts j k := by unfold rowOf; dsimp only; split <;> [exact h3 _; exact isReal_zero]
  d k r c := by unfold rowOf; dsimp only; split <;> [exact h4 _ _ _; exact isReal_zero]

variable {A}

theorem Real.left (h : A.Real) (m k : ℕ) (r : Fin 128) : IsReal (A.left m k r) := by
  induction m with
  | zero => exact h.rhs k r
  | succ m ih =>
    rw [left_succ]
    exact ih.sub ((IsReal.sum _ _ fun c _ => (h.l _ _ _ _).mul (real_codeAt _ _)).mul ((isReal_scaleOf _).mul (h.ts _ _)))
theorem Real.x (h : A.Real) (k : ℕ) (r : Fin 128) : IsReal (A.x k r) := by
  show IsReal (∑ c : Fin 128, A.d k r c * A.left k k c)
  exact IsReal.sum _ _ fun c _ => (h.d _ _ _).mul (h.left _ _ _)

end Row

end Cert.Math
-- ==== Proof.Kern.Rolled.lean ====
/- The kernel's program with its two counted repetitions written as recursions: over the block `k` and, inside it, over the
   earlier blocks `j`. The pure operations between two memory operations are named. -/
module

public import proofs.«01_k».proof.Proof.Gen.KernelIdeal
public import proofs.«01_k».proof.Proof.Math.Row

@[expose] public section

noncomputable section

namespace Cert.KernelIdeal.Rolled

open Idealize.ShloMosaic Idealize.SL.Sem Cert.KernelIdeal.Gen Cert.Math

variable {F : FTy → Type} [FloatOps F]

/-! ## The pure operations -/

/-- A block of the right-hand side, its rows along the lanes. -/
def blockT (v : Vec F S1x256x128 .f32) : FVec F S128x256 .f32 :=
  transpose S128x256 [1, 0] (shapeCast S256x128 v shapeCasts_S1x256x128_S256x128) transposes_S256x128_p1_0_S128x256

/-- One earlier block's contribution taken off the running sum. -/
def accStep (acc : FVec F S128x256 .f32) (l : Vec F S1x1x128x128 .fp8e4m3) (q : Vec F S1x1x128x256 .fp8e4m3)
    (s : Vec F S1x1x256 .f32) (ts : Elt F .f32) : FVec F S128x256 .f32 :=
  subf acc (mulf
    (matmul dot_S128x128_S128x256_S128x256_1_0_0_1_n_n none (shapeCast S128x128 l shapeCasts_S1x1x128x128_S128x128)
      (shapeCast S128x256 q shapeCasts_S1x1x128x256_S128x256) (constant S128x256 .f32 0x00000000#32))
    (broadcastTo S128x256 (mulf (shapeCast S1x256 s shapeCasts_S1x1x256_S1x256) (broadcast S1x256 ts)) broadcasts_S1x256_S128x256))

/-- The first of the three bf16 parts of `v`. -/
def hi {s : Shape} (v : FVec F s .f32) : FVec F s .bf16 := truncf .bf16 v bitsLt_bf16_f32
/-- What `v` has left after its first part. -/
def rest {s : Shape} (v : FVec F s .f32) : FVec F s .f32 := subf v (extf .f32 (hi v) bitsLt_bf16_f32)

/-- A piece of the diagonal block's inverse, as a matrix. -/
def dPiece (d : Vec F S1x1x128x128 .bf16) : FVec F S128x128 .bf16 := shapeCast S128x128 d shapeCasts_S1x1x128x128_S128x128

/-- The solved block: one product over the six pairs of parts. -/
def solve (acc : FVec F S128x256 .f32) (d0 d1 d2 : Vec F S1x1x128x128 .bf16) : FVec F S128x256 .f32 :=
  matmul dot_S128x768_S768x256_S128x256_1_0_0_1_n_n none
    (concatenate S128x768 1 [⟨S128x128, dPiece d2⟩, ⟨S128x128, dPiece d0⟩, ⟨S128x128, dPiece d1⟩, ⟨S128x128, dPiece d0⟩, ⟨S128x128, dPiece d0⟩, ⟨S128x128, dPiece d1⟩] concatenates_S128x128_S128x128_S128x128_S128x128_S128x128_S128x128_S128x768_d1)
    (concatenate S768x256 0 [⟨S128x256, hi acc⟩, ⟨S128x256, hi (rest (rest acc))⟩, ⟨S128x256, hi acc⟩, ⟨S128x256, hi (rest acc)⟩, ⟨S128x256, hi acc⟩, ⟨S128x256, hi (rest acc)⟩] concatenates_S128x256_S128x256_S128x256_S128x256_S128x256_S128x256_S768x256_d0)
    (constant S128x256 .f32 0x00000000#32)

/-- Each row's largest absolute value, over 448. -/
def amax (x : FVec F S128x256 .f32) : FVec F S1x256 .f32 :=
  mulf (shapeCast S1x256 (multiReduction .maximumf [0] S256 (absf x) 0xFF800000#32 reduces_S128x256_S256 (.inl rfl) rfl) shapeCasts_S256_S1x256)
    (broadcast S1x256 (Scalar.ofBits .f32 0x3B124925#32))

/-- The words of the powers of two, down the rows. -/
def words : IVec S256x256 32 :=
  let k : IVec S256x256 32 := iota .tc S256x256 32 [0] iota_S256x256_d0_w32
  shli (select (cmpi .slt k (broadcast S256x256 255#32)) (minsi k (broadcast S256x256 246#32)) k) (broadcast S256x256 23#32)

/-- The exponent field of `v`: the greatest of the words whose value is at most `v`. -/
def expo (v : FVec F S1x256 .f32) : IVec S1x256 32 :=
  shapeCast S1x256 (multiReductionI .maxsi [0] S256
    (select (cmpf .oge (broadcastTo S256x256 v broadcasts_S1x256_S256x256) (bitcastToFloat .f32 words)) words (broadcast S256x256 0#32))
    2147483648#32 reduces_S256x256_S256 rfl) shapeCasts_S256_S1x256

/-- Whether the exponent field is that of a finite number other than zero. -/
def okE (e : IVec S1x256 32) : IVec S1x256 1 :=
  andi (cmpi .ne e (broadcast S1x256 0#32)) (cmpi .ne e (broadcast S1x256 2139095040#32))

/-- The scale whose exponent is one above `e`'s. -/
def scale (e : IVec S1x256 32) : FVec F S1x256 .f32 :=
  select (okE e) (bitcastToFloat .f32 (addi e (broadcast S1x256 8388608#32))) (broadcast S1x256 (Scalar.ofBits .f32 0x3F800000#32))

/-- Its inverse. -/
def inv (e : IVec S1x256 32) : FVec F S1x256 .f32 :=
  select (okE e) (bitcastToFloat .f32 (subi (broadcast S1x256 2122317824#32) e)) (broadcast S1x256 (Scalar.ofBits .f32 0x3F800000#32))

/-- The codes of a solved block. -/
def codes (x : FVec F S128x256 .f32) (e : IVec S1x256 32) : FVec F S128x256 .fp8e4m3 :=
  truncf .fp8e4m3 (minimumf (broadcast S128x256 (Scalar.ofBits .f32 0x43E00000#32)) (maximumf (broadcast S128x256 (Scalar.ofBits .f32 0xC3E00000#32))
    (mulf x (broadcastTo S128x256 (inv e) broadcasts_S1x256_S128x256)))) bitsLt_fp8e4m3_f32

/-- What is stored of a solved block, of its codes and of its scale. -/
def storeX (x : FVec F S128x256 .f32) : FVec F S1x256x128 .f32 :=
  shapeCast S1x256x128 (transpose S256x128 [1, 0] x transposes_S128x256_p1_0_S256x128) shapeCasts_S256x128_S1x256x128
def storeC (c : FVec F S128x256 .fp8e4m3) : FVec F S1x256x128 .fp8e4m3 :=
  shapeCast S1x256x128 (truncf .fp8e4m3 (transpose S256x128 [1, 0] (extf .bf16 c bitsLt_fp8e4m3_bf16) transposes_S128x256_p1_0_S256x128) bitsLt_fp8e4m3_bf16) shapeCasts_S256x128_S1x256x128
def storeQ (c : FVec F S128x256 .fp8e4m3) : FVec F S1x1x128x256 .fp8e4m3 := shapeCast S1x1x128x256 c shapeCasts_S128x256_S1x1x128x256
def storeS (s : FVec F S1x256 .f32) : FVec F S1x1x256 .f32 := shapeCast S1x1x256 s shapeCasts_S1x256_S1x1x256
/-- A piece of the diagonal block's inverse, as it is stored. -/
def storeD (d : FVec F S128x128 .bf16) : FVec F S1x1x128x128 .bf16 := shapeCast S1x1x128x128 d shapeCasts_S128x128_S1x1x128x128
def dBlock (v : Vec F S1x1x128x128 .f32) : FVec F S128x128 .f32 := shapeCast S128x128 v shapeCasts_S1x1x128x128_S128x128

/-! ## The places -/

theorem inbR {k : ℕ} (h : k < 32) : ∀ a, (![0, 0, k * 128] : Fin 3 → ℕ) a + S1x256x128.size a ≤ S1x256x4096.size a
  | 0 => (by decide : 0 + 1 ≤ 1)
  | 1 => (by decide : 0 + 256 ≤ 256)
  | 2 => (by omega : k * 128 + 128 ≤ 4096)
theorem inbQ {k : ℕ} (h : k < 32) : ∀ a, (![k, 0, 0, 0] : Fin 4 → ℕ) a + S1x1x128x256.size a ≤ S32x1x128x256.size a
  | 0 => (by omega : k + 1 ≤ 32)
  | 1 => (by decide : 0 + 1 ≤ 1)
  | 2 => (by decide : 0 + 128 ≤ 128)
  | 3 => (by decide : 0 + 256 ≤ 256)
theorem inbS {k : ℕ} (h : k < 32) : ∀ a, (![0, k, 0] : Fin 3 → ℕ) a + S1x1x256.size a ≤ S1x32x256.size a
  | 0 => (by decide : 0 + 1 ≤ 1)
  | 1 => (by omega : k + 1 ≤ 32)
  | 2 => (by decide : 0 + 256 ≤ 256)
theorem inbP {k p : ℕ} (h : k < 32) (hp : p < 3) : ∀ a, (![k, p, 0, 0] : Fin 4 → ℕ) a + S1x1x128x128.size a ≤ S32x3x128x128.size a
  | 0 => (by omega : k + 1 ≤ 32)
  | 1 => (by omega : p + 1 ≤ 3)
  | 2 => (by decide : 0 + 128 ≤ 128)
  | 3 => (by decide : 0 + 128 ≤ 128)
theorem inbD {k : ℕ} (h : k < 32) : ∀ a, (![0, k, 0, 0] : Fin 4 → ℕ) a + S1x1x128x128.size a ≤ S1x32x128x128.size a
  | 0 => (by decide : 0 + 1 ≤ 1)
  | 1 => (by omega : k + 1 ≤ 32)
  | 2 => (by decide : 0 + 128 ≤ 128)
  | 3 => (by decide : 0 + 128 ≤ 128)
theorem inbL {j k : ℕ} (hk : k < 32) (hj : j < k) : ∀ a, (![0, tile j k, 0, 0] : Fin 4 → ℕ) a + S1x1x128x128.size a ≤ S1x496x128x128.size a
  | 0 => (by decide : 0 + 1 ≤ 1)
  | 1 => (by have := tile_lt hk hj; omega : tile j k + 1 ≤ 496)
  | 2 => (by decide : 0 + 128 ≤ 128)
  | 3 => (by decide : 0 + 128 ≤ 128)
/-- The row of the table of tile scales that a grid point reads: its batch. -/
def batchOf (i : grid0.Coords) : ℕ := (Scalar.indexCast (BitVec.ofNat 32 (i 0).val) : Index).toNat
theorem batchOf_eq (i : grid0.Coords) : batchOf i = (i 0).val := by
  have h : (i 0).val < 2 := (i 0).isLt
  show (BitVec.ofNat 32 (i 0).val).toNat = _
  rw [BitVec.toNat_ofNat]; omega
theorem inbT {b j k : ℕ} (hb : b < 2) (hk : k < 32) (hj : j < k) : ∀ a, (![b, tile j k] : Fin 2 → ℕ) a + S1x1.size a ≤ S2x496.size a
  | 0 => (by omega : b + 1 ≤ 2)
  | 1 => (by have := tile_lt hk hj; omega : tile j k + 1 ≤ 496)
/-- The batch a grid point belongs to is the first or the second. -/
theorem batch_lt (i : grid0.Coords) : batchOf i < 2 := by rw [batchOf_eq]; exact (i 0).isLt
theorem packedQ {k : ℕ} (h : k < 32) : (Rect.unit (s := S32x1x128x256) ![k, 0, 0, 0] S1x1x128x256.size (inbQ h)).PackedRows (EltTy.packing .fp8e4m3) := by
  have hh : ∀ k : Fin 32, (Rect.unit (s := S32x1x128x256) ![k.val, 0, 0, 0] S1x1x128x256.size (inbQ k.isLt)).PackedRows (EltTy.packing .fp8e4m3) := by decide
  exact hh ⟨k, h⟩
theorem packedR {k : ℕ} (h : k < 32) : (Rect.unit (s := S1x256x4096) ![0, 0, k * 128] S1x256x128.size (inbR h)).PackedRows (EltTy.packing .fp8e4m3) := by
  have hh : ∀ k : Fin 32, (Rect.unit (s := S1x256x4096) ![0, 0, k.val * 128] S1x256x128.size (inbR k.isLt)).PackedRows (EltTy.packing .fp8e4m3) := by decide
  exact hh ⟨k, h⟩
theorem packedP {k p : ℕ} (h : k < 32) (hp : p < 3) : (Rect.unit (s := S32x3x128x128) ![k, p, 0, 0] S1x1x128x128.size (inbP h hp)).PackedRows (EltTy.packing .bf16) := by
  have hh : ∀ k : Fin 32, ∀ p : Fin 3, (Rect.unit (s := S32x3x128x128) ![k.val, p.val, 0, 0] S1x1x128x128.size (inbP k.isLt p.isLt)).PackedRows (EltTy.packing .bf16) := by decide
  exact hh ⟨k, h⟩ ⟨p, hp⟩

/-! ## The program -/

/-- The effects of the kernel's program. -/
abbrev Eff (F : FTy → Type) := TpuEff nD τ sig (Elt F) Λ₀ .tc

variable (i : grid0.Coords) (arg2 : Memref sig .tc .smem S2x496 .f32) (arg3 : Memref sig .tc .vmem S1x256x4096 .f32)
  (arg4 : Memref sig .tc .vmem S1x496x128x128 .fp8e4m3) (arg5 : Memref sig .tc .vmem S1x32x128x128 .f32)
  (arg6 : Memref sig .tc .vmem S1x256x4096 .f32) (arg7 : Memref sig .tc .vmem S1x256x4096 .fp8e4m3) (harg7 : arg7.IsWhole)
  (arg8 : Memref sig .tc .vmem S1x32x256 .f32) (arg9 : Memref sig .tc .vmem S32x1x128x256 .fp8e4m3) (harg9 : arg9.IsWhole)
  (arg10 : Memref sig .tc .vmem S32x3x128x128 .bf16) (harg10 : arg10.IsWhole)

/-- The contributions of the blocks `j`, `j + 1`, …, `n` of them, taken off `acc`. -/
def inner (k : ℕ) (hk : k < 32) (K : FVec F S128x256 .f32 → Prog (Eff F) PUnit) : (n j : ℕ) → j + n = k → FVec F S128x256 .f32 → Prog (Eff F) PUnit
  | 0, _, _, acc => K acc
  | n + 1, j, h, acc =>
    .op (.load arg4 (Rect.unit (s := S1x496x128x128) ![0, tile j k, 0, 0] S1x1x128x128.size (inbL hk (by omega))).toLoadRect (View.loadsAt_vmem h_S1x1x128x128)) fun l =>
    .op (.load arg9 (Rect.unit (s := S32x1x128x256) ![j, 0, 0, 0] S1x1x128x256.size (inbQ (by omega))).toLoadRect (View.loadsAt_vmem h_S1x1x128x256)) fun q =>
    .op (.load arg8 (Rect.unit (s := S1x32x256) ![0, j, 0] S1x1x256.size (inbS (by omega))).toLoadRect (View.loadsAt_vmem h_S1x1x256)) fun s =>
    smemLoadElt arg2 (Rect.unit (s := S2x496) ![batchOf i, tile j k] S1x1.size (inbT (batch_lt i) hk (by omega))) (View.loads_smem_one rfl numel1_S1x1) (Shape.Idx.first (numel1_S1x1.symm ▸ Nat.one_pos)) fun ts =>
    inner k hk K n (j + 1) (by omega) (accStep acc l q s ts)

/-- Block `k` solved and written out, then `K`. -/
def block (k : ℕ) (hk : k < 32) (K : Prog (Eff F) PUnit) : Prog (Eff F) PUnit :=
  .op (.load arg3 (Rect.unit (s := S1x256x4096) ![0, 0, k * 128] S1x256x128.size (inbR hk)).toLoadRect (View.loadsAt_vmem h_S1x256x128)) fun v =>
  inner i arg2 arg4 arg8 arg9 k hk (fun acc =>
    .op (.load arg10 (Rect.unit (s := S32x3x128x128) ![k, 0, 0, 0] S1x1x128x128.size (inbP hk (by decide))).toLoadRect (View.loadsAt_vmem h_S1x1x128x128)) fun d0 =>
    .op (.load arg10 (Rect.unit (s := S32x3x128x128) ![k, 1, 0, 0] S1x1x128x128.size (inbP hk (by decide))).toLoadRect (View.loadsAt_vmem h_S1x1x128x128)) fun d1 =>
    .op (.load arg10 (Rect.unit (s := S32x3x128x128) ![k, 2, 0, 0] S1x1x128x128.size (inbP hk (by decide))).toLoadRect (View.loadsAt_vmem h_S1x1x128x128)) fun d2 =>
    .op (.load arg9 (Rect.unit (s := S32x1x128x256) ![k, 0, 0, 0] S1x1x128x256.size (inbQ hk)).toLoadRect (View.loadsAt_vmem h_S1x1x128x256)) fun _ =>
    .op (.store arg9 (Rect.unit (s := S32x1x128x256) ![k, 0, 0, 0] S1x1x128x256.size (inbQ hk)) (storeQ (codes (solve acc d0 d1 d2) (expo (amax (solve acc d0 d1 d2))))) Finset.univ (View.stores_vmem h_S1x1x128x256 (harg9.storeExact_slice rfl _ (packedQ hk)) (fun _ => rfl)) (.inl rfl)) fun _ =>
    .op (.load arg8 (Rect.unit (s := S1x32x256) ![0, k, 0] S1x1x256.size (inbS hk)).toLoadRect (View.loadsAt_vmem h_S1x1x256)) fun _ =>
    .op (.store arg8 (Rect.unit (s := S1x32x256) ![0, k, 0] S1x1x256.size (inbS hk)) (storeS (scale (expo (amax (solve acc d0 d1 d2))))) Finset.univ (View.stores_vmem_bits_univ h_S1x1x256 rfl) (.inl rfl)) fun _ =>
    .op (.load arg6 (Rect.unit (s := S1x256x4096) ![0, 0, k * 128] S1x256x128.size (inbR hk)).toLoadRect (View.loadsAt_vmem h_S1x256x128)) fun _ =>
    .op (.store arg6 (Rect.unit (s := S1x256x4096) ![0, 0, k * 128] S1x256x128.size (inbR hk)) (storeX (solve acc d0 d1 d2)) Finset.univ (View.stores_vmem_bits_univ h_S1x256x128 rfl) (.inl rfl)) fun _ =>
    .op (.load arg7 (Rect.unit (s := S1x256x4096) ![0, 0, k * 128] S1x256x128.size (inbR hk)).toLoadRect (View.loadsAt_vmem h_S1x256x128)) fun _ =>
    .op (.store arg7 (Rect.unit (s := S1x256x4096) ![0, 0, k * 128] S1x256x128.size (inbR hk)) (storeC (codes (solve acc d0 d1 d2) (expo (amax (solve acc d0 d1 d2))))) Finset.univ (View.stores_vmem h_S1x256x128 (harg7.storeExact_slice rfl _ (packedR hk)) (fun _ => rfl)) (.inl rfl)) fun _ =>
    K) k 0 (Nat.zero_add k) (blockT v)

/-- The blocks `k`, `k + 1`, …, `n` of them. -/
def blocks : (n k : ℕ) → k + n = 32 → Prog (Eff F) PUnit
  | 0, _, _ => .ret ⟨⟩
  | n + 1, k, h => block i arg2 arg3 arg4 arg6 arg7 harg7 arg8 arg9 harg9 arg10 k (by omega) (blocks n (k + 1) (by omega))

/-- The three parts of the diagonal blocks `k`, `k + 1`, …, `n` of them, written to the scratch, then `K`. -/
def fill (K : Prog (Eff F) PUnit) : (n k : ℕ) → k + n = 32 → Prog (Eff F) PUnit
  | 0, _, _ => K
  | n + 1, k, h =>
    .op (.load arg5 (Rect.unit (s := S1x32x128x128) ![0, k, 0, 0] S1x1x128x128.size (inbD (by omega))).toLoadRect (View.loadsAt_vmem h_S1x1x128x128)) fun d =>
    .op (.load arg10 (Rect.unit (s := S32x3x128x128) ![k, 0, 0, 0] S1x1x128x128.size (inbP (by omega) (by decide))).toLoadRect (View.loadsAt_vmem h_S1x1x128x128)) fun _ =>
    .op (.store arg10 (Rect.unit (s := S32x3x128x128) ![k, 0, 0, 0] S1x1x128x128.size (inbP (by omega) (by decide))) (storeD (hi (dBlock d))) Finset.univ (View.stores_vmem h_S1x1x128x128 (harg10.storeExact_slice rfl _ (packedP (by omega) (by decide))) (fun _ => rfl)) (.inl rfl)) fun _ =>
    .op (.load arg10 (Rect.unit (s := S32x3x128x128) ![k, 1, 0, 0] S1x1x128x128.size (inbP (by omega) (by decide))).toLoadRect (View.loadsAt_vmem h_S1x1x128x128)) fun _ =>
    .op (.store arg10 (Rect.unit (s := S32x3x128x128) ![k, 1, 0, 0] S1x1x128x128.size (inbP (by omega) (by decide))) (storeD (hi (rest (dBlock d)))) Finset.univ (View.stores_vmem h_S1x1x128x128 (harg10.storeExact_slice rfl _ (packedP (by omega) (by decide))) (fun _ => rfl)) (.inl rfl)) fun _ =>
    .op (.load arg10 (Rect.unit (s := S32x3x128x128) ![k, 2, 0, 0] S1x1x128x128.size (inbP (by omega) (by decide))).toLoadRect (View.loadsAt_vmem h_S1x1x128x128)) fun _ =>
    .op (.store arg10 (Rect.unit (s := S32x3x128x128) ![k, 2, 0, 0] S1x1x128x128.size (inbP (by omega) (by decide))) (storeD (hi (rest (rest (dBlock d))))) Finset.univ (View.stores_vmem h_S1x1x128x128 (harg10.storeExact_slice rfl _ (packedP (by omega) (by decide))) (fun _ => rfl)) (.inl rfl)) fun _ =>
    fill K n (k + 1) (by omega)

end Cert.KernelIdeal.Rolled
-- ==== Proof.Kern.Same.lean ====
/- The kernel's program is the one written as recursions. -/
module

public import proofs.«01_k».proof.Proof.Kern.Rolled
public import Idealize.ShloMosaic.Lib.Tactic

@[expose] public section

noncomputable section

namespace Cert.KernelIdeal.Rolled

open Idealize.ShloMosaic Idealize.SL.Sem Cert.KernelIdeal.Gen

variable {F : FTy → Type} [FloatOps F]

variable (i : grid0.Coords) (arg2 : Memref sig .tc .smem S2x496 .f32) (harg2 : arg2.IsWhole) (arg3 : Memref sig .tc .vmem S1x256x4096 .f32) (harg3 : arg3.IsWhole)
  (arg4 : Memref sig .tc .vmem S1x496x128x128 .fp8e4m3) (harg4 : arg4.IsWhole) (arg5 : Memref sig .tc .vmem S1x32x128x128 .f32) (harg5 : arg5.IsWhole)
  (arg6 : Memref sig .tc .vmem S1x256x4096 .f32) (harg6 : arg6.IsWhole) (arg7 : Memref sig .tc .vmem S1x256x4096 .fp8e4m3) (harg7 : arg7.IsWhole)
  (arg8 : Memref sig .tc .vmem S1x32x256 .f32) (harg8 : arg8.IsWhole) (arg9 : Memref sig .tc .vmem S32x1x128x256 .fp8e4m3) (harg9 : arg9.IsWhole)
  (arg10 : Memref sig .tc .vmem S32x3x128x128 .bf16) (harg10 : arg10.IsWhole)

set_option maxRecDepth 1000000 in
/-- At a grid point that starts a batch the scratch is filled first. -/
theorem body_first (h : Scalar.cmpi .ne (Scalar.extui (Scalar.cmpi .eq (BitVec.ofNat 32 (i 1).val) 0#32 : BitVec 1) : BitVec 32) 0#32 = 1#1) :
    cc0_block_solve (F := F) i arg2 harg2 arg3 harg3 arg4 harg4 arg5 harg5 arg6 harg6 arg7 harg7 arg8 harg8 arg9 harg9 arg10 harg10
      = fill arg5 arg10 harg10 (blocks i arg2 arg3 arg4 arg6 arg7 harg7 arg8 arg9 harg9 arg10 32 0 rfl) 32 0 rfl := by
  unfold cc0_block_solve k0_part311 k0_part21
  simp only [dif_pos h]
  sl_kernel_rfl

set_option maxRecDepth 1000000 in
/-- At any other grid point it is not. -/
theorem body_later (h : ¬ Scalar.cmpi .ne (Scalar.extui (Scalar.cmpi .eq (BitVec.ofNat 32 (i 1).val) 0#32 : BitVec 1) : BitVec 32) 0#32 = 1#1) :
    cc0_block_solve (F := F) i arg2 harg2 arg3 harg3 arg4 harg4 arg5 harg5 arg6 harg6 arg7 harg7 arg8 harg8 arg9 harg9 arg10 harg10
      = blocks i arg2 arg3 arg4 arg6 arg7 harg7 arg8 arg9 harg9 arg10 32 0 rfl := by
  unfold cc0_block_solve k0_part311 k0_part21
  simp only [dif_neg h]
  sl_kernel_rfl

end Cert.KernelIdeal.Rolled
-- ==== Proof.Kern.Elem.lean ====
/- The kernel's operations read at an element, as extended reals. -/
module

public import proofs.«01_k».proof.Proof.Kern.Rolled
public import Idealize.ShloMosaic.Lib.Pointwise
public import proofs.«01_k».proof.Proof.Math.Row

@[expose] public section

set_option maxRecDepth 16384

noncomputable section

namespace Cert.KernelIdeal.Rolled

open Idealize.ShloMosaic Idealize.SL.Sem Cert.KernelIdeal.Gen Cert.Math

theorem blockT_apply (v : Vec Ideal S1x256x128 .f32) (r : Fin 128) (n : Fin 256) : blockT v (ix2 r n) = v (ix3 0 n r) := by
  pointwise [blockT]

theorem accStep_apply (acc : FVec Ideal S128x256 .f32) (l : Vec Ideal S1x1x128x128 .fp8e4m3) (q : Vec Ideal S1x1x128x256 .fp8e4m3)
    (s : Vec Ideal S1x1x256 .f32) (ts : Elt Ideal .f32) (r : Fin 128) (n : Fin 256) :
    accStep acc l q s ts (ix2 r n) = acc (ix2 r n) - (∑ c : Fin 128, l (ix4 0 0 r c) * q (ix4 0 0 c n)) * (s (ix3 0 0 n) * ts) := by
  pointwise [accStep]

theorem hi_apply {s : Shape} (v : FVec Ideal s .f32) (j : s.Idx) : hi v j = v j := by
  pointwise [hi]

theorem rest_apply {s : Shape} (v : FVec Ideal s .f32) (j : s.Idx) : rest v j = v j - v j := by
  pointwise [rest, hi]

theorem dPiece_apply (d : Vec Ideal S1x1x128x128 .bf16) (r c : Fin 128) : dPiece d (ix2 r c) = d (ix4 0 0 r c) := by
  pointwise [dPiece]

/-- The product over the six pairs of parts, where the second and third parts of the diagonal block's inverse are zero and what is left
    of the right-hand side is a real number: the product of the first parts alone. -/
theorem solve_apply (acc : FVec Ideal S128x256 .f32) (d0 d1 d2 : Vec Ideal S1x1x128x128 .bf16) (r : Fin 128) (n : Fin 256)
    (h1 : ∀ c, d1 (ix4 0 0 r c) = 0) (h2 : ∀ c, d2 (ix4 0 0 r c) = 0) (ha : ∀ c, IsReal (acc (ix2 c n))) :
    solve acc d0 d1 d2 (ix2 r n) = ∑ c : Fin 128, d0 (ix4 0 0 r c) * acc (ix2 c n) := by
  pointwise [solve, hi_apply, rest_apply, dPiece_apply]
  have hs : ∀ f : Fin 768 → EReal, ∑ x, f x = (∑ c : Fin 128, f ⟨c.val, by omega⟩) + (∑ c : Fin 128, f ⟨128 + c.val, by omega⟩)
      + (∑ c : Fin 128, f ⟨256 + c.val, by omega⟩) + (∑ c : Fin 128, f ⟨384 + c.val, by omega⟩)
      + (∑ c : Fin 128, f ⟨512 + c.val, by omega⟩) + (∑ c : Fin 128, f ⟨640 + c.val, by omega⟩) := by
    intro f
    rw [Fin.sum_univ_add (a := 128 + 128 + 128 + 128 + 128) (b := 128) f, Fin.sum_univ_add (a := 128 + 128 + 128 + 128) (b := 128),
      Fin.sum_univ_add (a := 128 + 128 + 128) (b := 128), Fin.sum_univ_add (a := 128 + 128) (b := 128), Fin.sum_univ_add (a := 128) (b := 128)]
    rfl
  have key : ∀ {a b c d e g t : EReal}, a = 0 → b = 0 → c = 0 → d = 0 → e = t → g = 0 → a + b + c + d + e + g = t := by
    rintro _ _ _ _ _ _ _ rfl rfl rfl rfl rfl rfl; simp only [zero_add, add_zero]
  rw [hs]
  refine key (Finset.sum_eq_zero ?_) (Finset.sum_eq_zero ?_) (Finset.sum_eq_zero ?_) (Finset.sum_eq_zero ?_) (Finset.sum_congr rfl ?_) (Finset.sum_eq_zero ?_)
  all_goals
    intro c _
    have hc := c.isLt
    simp only []
  · rw [dif_pos (by omega), h2, zero_mul]
  · rw [dif_neg (by omega), dif_pos (by omega), dif_neg (by omega), dif_pos (by omega), (ha _).sub_self, isReal_zero.sub_self, mul_zero]
  · rw [dif_neg (by omega), dif_neg (by omega), dif_pos (by omega), h1, zero_mul]
  · rw [dif_neg (by omega), dif_neg (by omega), dif_neg (by omega), dif_pos (by omega), dif_neg (by omega), dif_neg (by omega), dif_neg (by omega), dif_pos (by omega), (ha _).sub_self, mul_zero]
  · rw [dif_neg (by omega), dif_neg (by omega), dif_neg (by omega), dif_neg (by omega), dif_pos (by omega), dif_neg (by omega), dif_neg (by omega), dif_neg (by omega), dif_neg (by omega), dif_pos (by omega)]
    have he : ∀ h, (⟨512 + c.val - 128 - 128 - 128 - 128, h⟩ : Fin 128) = c := fun h => Fin.ext (by show 512 + c.val - 128 - 128 - 128 - 128 = c.val; omega)
    rw [he]
  · rw [dif_neg (by omega), dif_neg (by omega), dif_neg (by omega), dif_neg (by omega), dif_neg (by omega), h1, zero_mul]

/-- The number from which a row's scale is found. -/
theorem amax_apply (x : FVec Ideal S128x256 .f32) (n : Fin 256) :
    amax x (ix2 0 n) = amaxOf fun r => x (ix2 r n) := by
  unfold amaxOf
  have hb : Ideal.ofBits .f32 4286578688#32 = ⊥ := by
    show Ideal.ieee 8 23 4286578688#32 = ⊥
    unfold Ideal.ieee
    simp
  pointwise [amax]
  rw [hb]
  rfl

theorem words_apply (k n : Fin 256) : words (ix2 k n) = rung k := by
  have h : ∀ k : Fin 256, IntOp.shli .vector (Scalar.select (IntOp.cmpi .slt (BitVec.ofNat 32 k.val) 255#32) (IntOp.minsi (BitVec.ofNat 32 k.val) 246#32)
      (BitVec.ofNat 32 k.val)) 23#32 = rung k := by decide +kernel
  rw [← h k]
  pointwise [words]

/-- The exponent field that the ladder finds. -/
theorem expo_apply (v : FVec Ideal S1x256 .f32) (n : Fin 256) (h0 : 0 ≤ v (ix2 0 n)) (h1 : v (ix2 0 n) ≠ ⊤) :
    expo v (ix2 0 n) = wd (level (v (ix2 0 n))) := by
  rw [← fold_rungs h0 h1]
  pointwise [expo, words_apply]

theorem scale_apply (e : IVec S1x256 32) (n : Fin 256) (v : EReal) (h : e (ix2 0 n) = wd (level v)) : scale (F := Ideal) e (ix2 0 n) = scaleOf v := by
  rw [← scale_word v, ← h]
  pointwise [scale, okE]

theorem inv_apply (e : IVec S1x256 32) (n : Fin 256) (v : EReal) (h : e (ix2 0 n) = wd (level v)) : inv (F := Ideal) e (ix2 0 n) = invOf v := by
  rw [← inv_word v, ← h]
  pointwise [inv, okE]

theorem codes_apply (x : FVec Ideal S128x256 .f32) (e : IVec S1x256 32) (r : Fin 128) (n : Fin 256)
    (h : e (ix2 0 n) = wd (level (amaxOf fun r => x (ix2 r n)))) :
    codes x e (ix2 r n) = codeAt (fun r => x (ix2 r n)) r := by
  unfold codeAt
  rw [← inv_apply e n _ h]
  pointwise [codes]

theorem storeX_apply (x : FVec Ideal S128x256 .f32) (n : Fin 256) (r : Fin 128) : storeX x (ix3 0 n r) = x (ix2 r n) := by
  pointwise [storeX]
theorem storeC_apply (x : FVec Ideal S128x256 .fp8e4m3) (n : Fin 256) (r : Fin 128) : storeC x (ix3 0 n r) = x (ix2 r n) := by
  pointwise [storeC]
theorem storeQ_apply (x : FVec Ideal S128x256 .fp8e4m3) (n : Fin 256) (r : Fin 128) : storeQ x (ix4 0 0 r n) = x (ix2 r n) := by
  pointwise [storeQ]
theorem storeS_apply (x : FVec Ideal S1x256 .f32) (n : Fin 256) : storeS x (ix3 0 0 n) = x (ix2 0 n) := by
  pointwise [storeS]
theorem storeD_apply (x : FVec Ideal S128x128 .bf16) (n r : Fin 128) : storeD x (ix4 0 0 n r) = x (ix2 n r) := by
  pointwise [storeD]
theorem dBlock_apply (x : Vec Ideal S1x1x128x128 .f32) (n r : Fin 128) : dBlock x (ix2 n r) = x (ix4 0 0 n r) := by
  pointwise [dBlock]

end Cert.KernelIdeal.Rolled
-- ==== Proof.Kern.Owned.lean ====
/- Loads and stores of a buffer by the values it holds. -/
module

public import proofs.«01_k».proof.Proof.Gen.KernelIdeal
public import Idealize.ShloMosaic.Lib.VecWindow
public import Idealize.ShloMosaic.Lib.Pipeline.TableIdle
public import Idealize.ShloMosaic.Lib.Tactic
public import Idealize.ShloMosaic.Lib.Pipeline.Kit

@[expose] public section

noncomputable section

namespace Cert.Owned

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels} {defs : Defs nD τ sig (Elt F) Λ}

local notation "𝕄" => MT nD τ sig Unit (Elt F) ℕ (UR sig nD τ) ℕ

/-- A load at a unit-stride rectangle of a buffer that holds `X` goes on with the window of `X` there. -/
theorem load (𝒱 : Variants) (c : Thread nD τ) (bd : Option 𝒱.V) (E : Set ℕ) {α : Type} {Q : α → sProp 𝕄} {cs : CoreSpace} {s : Shape} {e : EltTy}
    {m : Memref sig c.2.kind cs s e} {off size : Fin s.rank → ℕ} {inb : ∀ a, off a + size a ≤ s.size a} {hl : m.view.LoadsAt (Rect.unit off size inb).toLoadRect}
    {k : ((Rect.unit off size inb).shape.Idx → Elt F e) → Prog (TpuEff nD τ sig (Elt F) Λ c.2) α} {q : PosShare TreeShare} {X : s.Idx → Elt F e} :
    owns c m q X ⊢ iprop((owns c m q X -∗ wp frame (wpE defs 𝒱 c bd) E (k (VecWindow.window X off size inb)) Q)
      -∗ wp frame (wpE defs 𝒱 c bd) E (.op (.load m (Rect.unit off size inb).toLoadRect hl) k) Q) := by
  rw [owns_eq_rep]
  have h := wp_load (defs := defs) 𝒱 c bd (Γ := .empty) E (Q := Q) (m := m) (r := (Rect.unit off size inb).toLoadRect) (hl := hl) (k := k) (q := q) (f := m.view.rep X)
    (S := m.view.set) (View.setOn_subset_set _ _)
  rw [View.readAt_rep_unit m.view X inb rfl inb] at h
  exact h

/-- A store at a unit-stride rectangle of a buffer that holds `X` leaves `X` with the payload put there. -/
theorem store (𝒱 : Variants) (c : Thread nD τ) (bd : Option 𝒱.V) (E : Set ℕ) {α : Type} {Q : α → sProp 𝕄} {cs : CoreSpace} {s : Shape} {e : EltTy}
    {m : Memref sig c.2.kind cs s e} {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → Prog (TpuEff nD τ sig (Elt F) Λ c.2) α} {X : s.Idx → Elt F e} :
    owns c m fullShare X ⊢ iprop((owns c m fullShare (VecWindow.put X off size w) -∗ wp frame (wpE defs 𝒱 c bd) E (k ⟨⟩) Q)
      -∗ wp frame (wpE defs 𝒱 c bd) E (.op (.store m (Rect.unit off size inb) w Finset.univ hx hm) k) Q) := by
  rw [owns_eq_rep c m fullShare X]
  have h := wp_store_writes₀ (defs := defs) 𝒱 c bd E (Q := Q) (m := m) (r := Rect.unit off size inb) (w := w) (hx := hx) (hm := hm) (k := k) (f := m.view.rep X)
    (S := m.view.set) (View.set_slice_subset _ _)
  refine h.trans (wand_mono_left ?_)
  refine wand_mono_left ?_
  iintro H
  unfold owns; iexists _
  isplitr
  · ipureintro; exact View.read_writes_rep_unit m.view X inb w rfl
  iexact H

end Cert.Owned
-- ==== Proof.Kern.Run.lean ====
/- What the kernel's program leaves in its buffers, as functions of what they hold: every load a window, every store a put. -/
module

public import proofs.«01_k».proof.Proof.Kern.Rolled
public import proofs.«01_k».proof.Proof.Kern.Owned

@[expose] public section

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Math
open VecWindow

variable {F : FTy → Type} [FloatOps F]

local notation "𝕄" => MT nD τ sig Unit (Elt F) ℕ (UR sig nD τ) ℕ

/-! ## The buffers as functions -/

/-- What the four buffers that the solve writes hold: the solution, its codes, its scales, and the codes block by block. -/
structure Held (F : FTy → Type) where
  /-- The solution. -/
  x : Vec F S1x256x4096 .f32
  /-- Its codes. -/
  c : Vec F S1x256x4096 .fp8e4m3
  /-- Its scales. -/
  s : Vec F S1x32x256 .f32
  /-- The codes by blocks, transposed. -/
  q : Vec F S32x1x128x256 .fp8e4m3

/-- The contributions of the blocks `j`, `j + 1`, …, `n` of them, taken off `acc`. -/
def innerV (b : ℕ) (T : Vec F S2x496 .f32) (L : Vec F S1x496x128x128 .fp8e4m3) (H : Held F) (hb : b < 2) (k : ℕ) (hk : k < 32) :
    (n j : ℕ) → j + n = k → FVec F S128x256 .f32 → FVec F S128x256 .f32
  | 0, _, _, acc => acc
  | n + 1, j, h, acc =>
    innerV b T L H hb k hk n (j + 1) (by omega)
      (accStep acc (window L ![0, tile j k, 0, 0] S1x1x128x128.size (inbL hk (by omega))) (window H.q ![j, 0, 0, 0] S1x1x128x256.size (inbQ (by omega)))
        (window H.s ![0, j, 0] S1x1x256.size (inbS (by omega)))
        (window T ![b, tile j k] S1x1.size (inbT hb hk (by omega)) (Shape.Idx.first (numel1_S1x1.symm ▸ Nat.one_pos))))

/-- Block `k` solved: its values. -/
def solvedV (b : ℕ) (T : Vec F S2x496 .f32) (R : Vec F S1x256x4096 .f32) (L : Vec F S1x496x128x128 .fp8e4m3) (D : Vec F S32x3x128x128 .bf16) (H : Held F)
    (hb : b < 2) (k : ℕ) (hk : k < 32) : FVec F S128x256 .f32 :=
  solve (innerV b T L H hb k hk k 0 (Nat.zero_add k) (blockT (window R ![0, 0, k * 128] S1x256x128.size (inbR hk))))
    (window D ![k, 0, 0, 0] S1x1x128x128.size (inbP hk (by decide))) (window D ![k, 1, 0, 0] S1x1x128x128.size (inbP hk (by decide)))
    (window D ![k, 2, 0, 0] S1x1x128x128.size (inbP hk (by decide)))

/-- The buffers after a block with the values `x` is written at `k`. -/
def putV (k : ℕ) (H : Held F) (x : FVec F S128x256 .f32) : Held F where
  x := put H.x ![0, 0, k * 128] S1x256x128.size (storeX x)
  c := put H.c ![0, 0, k * 128] S1x256x128.size (storeC (codes x (expo (amax x))))
  s := put H.s ![0, k, 0] S1x1x256.size (storeS (scale (expo (amax x))))
  q := put H.q ![k, 0, 0, 0] S1x1x128x256.size (storeQ (codes x (expo (amax x))))

/-- The buffers after the blocks `k`, `k + 1`, …, `n` of them. -/
def blocksV (b : ℕ) (T : Vec F S2x496 .f32) (R : Vec F S1x256x4096 .f32) (L : Vec F S1x496x128x128 .fp8e4m3) (D : Vec F S32x3x128x128 .bf16) (hb : b < 2) :
    (n k : ℕ) → k + n = 32 → Held F → Held F
  | 0, _, _, H => H
  | n + 1, k, h, H => blocksV b T R L D hb n (k + 1) (by omega) (putV k H (solvedV b T R L D H hb k (by omega)))

/-- The scratch after the diagonal blocks `k`, `k + 1`, …, `n` of them, are written to it in three parts. -/
def fillV (I : Vec F S1x32x128x128 .f32) : (n k : ℕ) → k + n = 32 → Vec F S32x3x128x128 .bf16 → Vec F S32x3x128x128 .bf16
  | 0, _, _, D => D
  | n + 1, k, h, D =>
    fillV I n (k + 1) (by omega)
      (put (put (put D ![k, 0, 0, 0] S1x1x128x128.size (storeD (hi (dBlock (window I ![0, k, 0, 0] S1x1x128x128.size (inbD (by omega)))))))
        ![k, 1, 0, 0] S1x1x128x128.size (storeD (hi (rest (dBlock (window I ![0, k, 0, 0] S1x1x128x128.size (inbD (by omega))))))))
        ![k, 2, 0, 0] S1x1x128x128.size (storeD (hi (rest (rest (dBlock (window I ![0, k, 0, 0] S1x1x128x128.size (inbD (by omega)))))))))

/-! ## The run -/

variable (c : Dev nD) (E : Set ℕ)
  (i : grid0.Coords) (arg2 : Memref sig .tc .smem S2x496 .f32) (arg3 : Memref sig .tc .vmem S1x256x4096 .f32)
  (arg4 : Memref sig .tc .vmem S1x496x128x128 .fp8e4m3) (arg5 : Memref sig .tc .vmem S1x32x128x128 .f32)
  (arg6 : Memref sig .tc .vmem S1x256x4096 .f32) (arg7 : Memref sig .tc .vmem S1x256x4096 .fp8e4m3) (harg7 : arg7.IsWhole)
  (arg8 : Memref sig .tc .vmem S1x32x256 .f32) (arg9 : Memref sig .tc .vmem S32x1x128x256 .fp8e4m3) (harg9 : arg9.IsWhole)
  (arg10 : Memref sig .tc .vmem S32x3x128x128 .bf16) (harg10 : arg10.IsWhole)

/-- What the inner repetition reads, held; it goes on with the running sum. -/
theorem wp_inner (k : ℕ) (hk : k < 32) (T : Vec F S2x496 .f32) (L : Vec F S1x496x128x128 .fp8e4m3) (H : Held F)
    (K : FVec F S128x256 .f32 → Prog (Eff F) PUnit) (Q : PUnit → sProp 𝕄) (n j : ℕ) (h : j + n = k) (acc : FVec F S128x256 .f32) :
    iprop(owns (c : Thread nD τ) arg2 fullShare T ∗ owns (c : Thread nD τ) arg4 fullShare L ∗ owns (c : Thread nD τ) arg8 fullShare H.s ∗ owns (c : Thread nD τ) arg9 fullShare H.q
      ∗ (iprop(owns (c : Thread nD τ) arg2 fullShare T ∗ owns (c : Thread nD τ) arg4 fullShare L ∗ owns (c : Thread nD τ) arg8 fullShare H.s ∗ owns (c : Thread nD τ) arg9 fullShare H.q)
        -∗ wp frame (wpE (defs₀ (F := F)) Variants.none c none) E (K (innerV (batchOf i) T L H (batch_lt i) k hk n j h acc)) Q))
      ⊢ wp frame (wpE (defs₀ (F := F)) Variants.none c none) E (inner i arg2 arg4 arg8 arg9 k hk K n j h acc) Q := by
  induction n generalizing j acc with
  | zero =>
    unfold inner innerV
    iintro ⟨H2, H4, H8, H9, Hk⟩
    iapply Hk
    isplitl [H2]; · iexact H2
    isplitl [H4]; · iexact H4
    isplitl [H8]; · iexact H8
    iexact H9
  | succ n ih =>
    unfold inner innerV
    iintro ⟨H2, H4, H8, H9, Hk⟩
    iapply (Owned.load Variants.none (c : Thread nD τ) none E) $$ H4
    iintro H4
    iapply (Owned.load Variants.none (c : Thread nD τ) none E) $$ H9
    iintro H9
    iapply (Owned.load Variants.none (c : Thread nD τ) none E) $$ H8
    iintro H8
    unfold smemLoadElt
    iapply (Owned.load Variants.none (c : Thread nD τ) none E) $$ H2
    iintro H2
    iapply (ih (j + 1) _ _)
    isplitl [H2]; · iexact H2
    isplitl [H4]; · iexact H4
    isplitl [H8]; · iexact H8
    isplitl [H9]; · iexact H9
    iexact Hk

/-- The blocks, run: the buffers that they write end as `blocksV` says. -/
theorem wp_blocks (T : Vec F S2x496 .f32) (R : Vec F S1x256x4096 .f32) (L : Vec F S1x496x128x128 .fp8e4m3) (D : Vec F S32x3x128x128 .bf16)
    (Q : PUnit → sProp 𝕄) (n k : ℕ) (h : k + n = 32) (H : Held F) :
    iprop(owns (c : Thread nD τ) arg2 fullShare T ∗ owns (c : Thread nD τ) arg3 fullShare R ∗ owns (c : Thread nD τ) arg4 fullShare L
      ∗ owns (c : Thread nD τ) arg6 fullShare H.x ∗ owns (c : Thread nD τ) arg7 fullShare H.c ∗ owns (c : Thread nD τ) arg8 fullShare H.s ∗ owns (c : Thread nD τ) arg9 fullShare H.q
      ∗ owns (c : Thread nD τ) arg10 fullShare D
      ∗ (iprop(owns (c : Thread nD τ) arg2 fullShare T ∗ owns (c : Thread nD τ) arg3 fullShare R ∗ owns (c : Thread nD τ) arg4 fullShare L
          ∗ owns (c : Thread nD τ) arg6 fullShare (blocksV (batchOf i) T R L D (batch_lt i) n k h H).x ∗ owns (c : Thread nD τ) arg7 fullShare (blocksV (batchOf i) T R L D (batch_lt i) n k h H).c
          ∗ owns (c : Thread nD τ) arg8 fullShare (blocksV (batchOf i) T R L D (batch_lt i) n k h H).s ∗ owns (c : Thread nD τ) arg9 fullShare (blocksV (batchOf i) T R L D (batch_lt i) n k h H).q
          ∗ owns (c : Thread nD τ) arg10 fullShare D) -∗ Q ⟨⟩))
      ⊢ wp frame (wpE (defs₀ (F := F)) Variants.none c none) E (blocks i arg2 arg3 arg4 arg6 arg7 harg7 arg8 arg9 harg9 arg10 n k h) Q := by
  induction n generalizing k H with
  | zero =>
    unfold blocks blocksV
    iintro ⟨H2, H3, H4, H6, H7, H8, H9, H10, Hk⟩
    sl_step
    iapply Hk
    isplitl [H2]; · iexact H2
    isplitl [H3]; · iexact H3
    isplitl [H4]; · iexact H4
    isplitl [H6]; · iexact H6
    isplitl [H7]; · iexact H7
    isplitl [H8]; · iexact H8
    isplitl [H9]; · iexact H9
    iexact H10
  | succ n ih =>
    unfold blocks blocksV block
    iintro ⟨H2, H3, H4, H6, H7, H8, H9, H10, Hk⟩
    iapply (Owned.load Variants.none (c : Thread nD τ) none E) $$ H3
    iintro H3
    iapply (wp_inner c E i arg2 arg4 arg8 arg9 k _ T L H)
    isplitl [H2]; · iexact H2
    isplitl [H4]; · iexact H4
    isplitl [H8]; · iexact H8
    isplitl [H9]; · iexact H9
    iintro ⟨H2, H4, H8, H9⟩
    iapply (Owned.load Variants.none (c : Thread nD τ) none E) $$ H10
    iintro H10
    iapply (Owned.load Variants.none (c : Thread nD τ) none E) $$ H10
    iintro H10
    iapply (Owned.load Variants.none (c : Thread nD τ) none E) $$ H10
    iintro H10
    iapply (Owned.load Variants.none (c : Thread nD τ) none E) $$ H9
    iintro H9
    iapply (Owned.store Variants.none (c : Thread nD τ) none E) $$ H9
    iintro H9
    iapply (Owned.load Variants.none (c : Thread nD τ) none E) $$ H8
    iintro H8
    iapply (Owned.store Variants.none (c : Thread nD τ) none E) $$ H8
    iintro H8
    iapply (Owned.load Variants.none (c : Thread nD τ) none E) $$ H6
    iintro H6
    iapply (Owned.store Variants.none (c : Thread nD τ) none E) $$ H6
    iintro H6
    iapply (Owned.load Variants.none (c : Thread nD τ) none E) $$ H7
    iintro H7
    iapply (Owned.store Variants.none (c : Thread nD τ) none E) $$ H7
    iintro H7
    iapply (ih (k + 1) _ (putV k H (solvedV (batchOf i) T R L D H (batch_lt i) k (by omega))))
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    iexact Hk

/-- The scratch filled, then what follows. -/
theorem wp_fill (I : Vec F S1x32x128x128 .f32) (K : Prog (Eff F) PUnit) (Q : PUnit → sProp 𝕄) (n k : ℕ) (h : k + n = 32) (D : Vec F S32x3x128x128 .bf16) :
    iprop(owns (c : Thread nD τ) arg5 fullShare I ∗ owns (c : Thread nD τ) arg10 fullShare D
      ∗ (iprop(owns (c : Thread nD τ) arg5 fullShare I ∗ owns (c : Thread nD τ) arg10 fullShare (fillV I n k h D))
        -∗ wp frame (wpE (defs₀ (F := F)) Variants.none c none) E K Q))
      ⊢ wp frame (wpE (defs₀ (F := F)) Variants.none c none) E (fill arg5 arg10 harg10 K n k h) Q := by
  induction n generalizing k D with
  | zero =>
    unfold fill fillV
    iintro ⟨H5, H10, Hk⟩
    iapply Hk
    isplitl [H5]; · iexact H5
    iexact H10
  | succ n ih =>
    unfold fill fillV
    iintro ⟨H5, H10, Hk⟩
    iapply (Owned.load Variants.none (c : Thread nD τ) none E) $$ H5
    iintro H5
    iapply (Owned.load Variants.none (c : Thread nD τ) none E) $$ H10
    iintro H10
    iapply (Owned.store Variants.none (c : Thread nD τ) none E) $$ H10
    iintro H10
    iapply (Owned.load Variants.none (c : Thread nD τ) none E) $$ H10
    iintro H10
    iapply (Owned.store Variants.none (c : Thread nD τ) none E) $$ H10
    iintro H10
    iapply (Owned.load Variants.none (c : Thread nD τ) none E) $$ H10
    iintro H10
    iapply (Owned.store Variants.none (c : Thread nD τ) none E) $$ H10
    iintro H10
    iapply (ih (k + 1) _ _)
    isplitl [H5]; · iexact H5
    isplitl [H10]; · iexact H10
    iexact Hk

end Cert.KernelIdeal.Rolled
-- ==== Proof.Math.Windows.lean ====
/- Windows of an array read and written, element by element. -/
module

public import Idealize.ShloMosaic.Lib.VecWindow
public import Idealize.ShloMosaic.Lib.Pointwise

@[expose] public section

namespace Cert.Math

open Idealize.ShloMosaic VecWindow

variable {α : Type} {s : Shape}

/-- An element of a window is the array's element at the offset place. -/
theorem window_at (x : s.Idx → α) (off size : Fin s.rank → ℕ) (inb : ∀ a, off a + size a ≤ s.size a) (y : (Rect.unit off size inb).shape.Idx) (z : s.Idx)
    (h : ∀ a, (z a).val = off a + (y a).val) : window x off size inb y = x z := by
  unfold window
  refine congrArg x (funext fun a => Fin.ext ?_)
  show off a + 1 * (y a).val = (z a).val
  rw [h a]; omega

/-- An element written is the payload's. -/
theorem put_at (x : s.Idx → α) (off size : Fin s.rank → ℕ) (w : ((a : Fin s.rank) → Fin (size a)) → α) (z : s.Idx) (y : (a : Fin s.rank) → Fin (size a))
    (h : ∀ a, (z a).val = off a + (y a).val) : put x off size w z = w y := by
  have hm : ∀ a, off a ≤ (z a).val ∧ (z a).val < off a + size a := fun a => by have := h a; have := (y a).isLt; omega
  refine (dif_pos hm).trans (congrArg w (funext fun a => Fin.ext ?_))
  show (z a).val - off a = (y a).val
  have := h a; omega

/-- An element outside the window written is what it was. -/
theorem put_off (x : s.Idx → α) (off size : Fin s.rank → ℕ) (w : ((a : Fin s.rank) → Fin (size a)) → α) (z : s.Idx) (a : Fin s.rank)
    (h : (z a).val < off a ∨ off a + size a ≤ (z a).val) : put x off size w z = x z := by
  refine dif_neg fun hm => ?_
  have := hm a; omega

/-! At the ranks in use. -/

theorem window2 {n0 n1 m0 m1 : ℕ} (x : (⟨2, ![n0, n1]⟩ : Shape).Idx → α) (o0 o1 : ℕ)
    (inb : ∀ a, (![o0, o1] : Fin 2 → ℕ) a + (⟨2, ![m0, m1]⟩ : Shape).size a ≤ (⟨2, ![n0, n1]⟩ : Shape).size a)
    (p0 : Fin n0) (p1 : Fin n1) (i0 : Fin m0) (i1 : Fin m1) (h0 : p0.val = o0 + i0.val) (h1 : p1.val = o1 + i1.val) :
    window x ![o0, o1] (⟨2, ![m0, m1]⟩ : Shape).size inb (ix2 i0 i1) = x (ix2 p0 p1) :=
  window_at _ _ _ _ _ _ fun | 0 => h0 | 1 => h1
theorem put2 {n0 n1 m0 m1 : ℕ} (x : (⟨2, ![n0, n1]⟩ : Shape).Idx → α) (o0 o1 : ℕ) (w : (⟨2, ![m0, m1]⟩ : Shape).Idx → α)
    (p0 : Fin n0) (p1 : Fin n1) (i0 : Fin m0) (i1 : Fin m1) (h0 : p0.val = o0 + i0.val) (h1 : p1.val = o1 + i1.val) :
    put x ![o0, o1] (⟨2, ![m0, m1]⟩ : Shape).size w (ix2 p0 p1) = w (ix2 i0 i1) :=
  put_at x ![o0, o1] (⟨2, ![m0, m1]⟩ : Shape).size w (ix2 p0 p1) (ix2 i0 i1) fun | 0 => h0 | 1 => h1

theorem window3 {n0 n1 n2 m0 m1 m2 : ℕ} (x : (⟨3, ![n0, n1, n2]⟩ : Shape).Idx → α) (o0 o1 o2 : ℕ)
    (inb : ∀ a, (![o0, o1, o2] : Fin 3 → ℕ) a + (⟨3, ![m0, m1, m2]⟩ : Shape).size a ≤ (⟨3, ![n0, n1, n2]⟩ : Shape).size a)
    (p0 : Fin n0) (p1 : Fin n1) (p2 : Fin n2) (i0 : Fin m0) (i1 : Fin m1) (i2 : Fin m2) (h0 : p0.val = o0 + i0.val) (h1 : p1.val = o1 + i1.val) (h2 : p2.val = o2 + i2.val) :
    window x ![o0, o1, o2] (⟨3, ![m0, m1, m2]⟩ : Shape).size inb (ix3 i0 i1 i2) = x (ix3 p0 p1 p2) :=
  window_at _ _ _ _ _ _ fun | 0 => h0 | 1 => h1 | 2 => h2
theorem put3 {n0 n1 n2 m0 m1 m2 : ℕ} (x : (⟨3, ![n0, n1, n2]⟩ : Shape).Idx → α) (o0 o1 o2 : ℕ) (w : (⟨3, ![m0, m1, m2]⟩ : Shape).Idx → α)
    (p0 : Fin n0) (p1 : Fin n1) (p2 : Fin n2) (i0 : Fin m0) (i1 : Fin m1) (i2 : Fin m2) (h0 : p0.val = o0 + i0.val) (h1 : p1.val = o1 + i1.val) (h2 : p2.val = o2 + i2.val) :
    put x ![o0, o1, o2] (⟨3, ![m0, m1, m2]⟩ : Shape).size w (ix3 p0 p1 p2) = w (ix3 i0 i1 i2) :=
  put_at x ![o0, o1, o2] (⟨3, ![m0, m1, m2]⟩ : Shape).size w (ix3 p0 p1 p2) (ix3 i0 i1 i2) fun | 0 => h0 | 1 => h1 | 2 => h2

theorem window4 {n0 n1 n2 n3 m0 m1 m2 m3 : ℕ} (x : (⟨4, ![n0, n1, n2, n3]⟩ : Shape).Idx → α) (o0 o1 o2 o3 : ℕ)
    (inb : ∀ a, (![o0, o1, o2, o3] : Fin 4 → ℕ) a + (⟨4, ![m0, m1, m2, m3]⟩ : Shape).size a ≤ (⟨4, ![n0, n1, n2, n3]⟩ : Shape).size a)
    (p0 : Fin n0) (p1 : Fin n1) (p2 : Fin n2) (p3 : Fin n3) (i0 : Fin m0) (i1 : Fin m1) (i2 : Fin m2) (i3 : Fin m3) (h0 : p0.val = o0 + i0.val) (h1 : p1.val = o1 + i1.val) (h2 : p2.val = o2 + i2.val) (h3 : p3.val = o3 + i3.val) :
    window x ![o0, o1, o2, o3] (⟨4, ![m0, m1, m2, m3]⟩ : Shape).size inb (ix4 i0 i1 i2 i3) = x (ix4 p0 p1 p2 p3) :=
  window_at _ _ _ _ _ _ fun | 0 => h0 | 1 => h1 | 2 => h2 | 3 => h3
theorem put4 {n0 n1 n2 n3 m0 m1 m2 m3 : ℕ} (x : (⟨4, ![n0, n1, n2, n3]⟩ : Shape).Idx → α) (o0 o1 o2 o3 : ℕ) (w : (⟨4, ![m0, m1, m2, m3]⟩ : Shape).Idx → α)
    (p0 : Fin n0) (p1 : Fin n1) (p2 : Fin n2) (p3 : Fin n3) (i0 : Fin m0) (i1 : Fin m1) (i2 : Fin m2) (i3 : Fin m3) (h0 : p0.val = o0 + i0.val) (h1 : p1.val = o1 + i1.val) (h2 : p2.val = o2 + i2.val) (h3 : p3.val = o3 + i3.val) :
    put x ![o0, o1, o2, o3] (⟨4, ![m0, m1, m2, m3]⟩ : Shape).size w (ix4 p0 p1 p2 p3) = w (ix4 i0 i1 i2 i3) :=
  put_at x ![o0, o1, o2, o3] (⟨4, ![m0, m1, m2, m3]⟩ : Shape).size w (ix4 p0 p1 p2 p3) (ix4 i0 i1 i2 i3) fun | 0 => h0 | 1 => h1 | 2 => h2 | 3 => h3

end Cert.Math
-- ==== Proof.Kern.Sem.lean ====
/- What the kernel's blocks leave in its buffers, over the extended reals: every row solved. -/
module

public import proofs.«01_k».proof.Proof.Kern.Elem
public import proofs.«01_k».proof.Proof.Kern.Run
public import proofs.«01_k».proof.Proof.Math.Windows

@[expose] public section

set_option maxRecDepth 16384

noncomputable section

namespace Cert.KernelIdeal.Rolled

open Idealize.ShloMosaic Cert.KernelIdeal.Gen Cert.Math
open VecWindow

variable (b : ℕ) (hb : b < 2) (T : Vec Ideal S2x496 .f32) (R : Vec Ideal S1x256x4096 .f32) (L : Vec Ideal S1x496x128x128 .fp8e4m3)
  (I : Vec Ideal S1x32x128x128 .f32) (D : Vec Ideal S32x3x128x128 .bf16)

/-- Row `n` of a grid point's block. -/
def rowAt (n : Fin 256) : Row :=
  rowOf (fun p => R (ix3 0 n p)) (fun t r c => L (ix4 0 t r c)) (fun t => T (ix2 ⟨b, hb⟩ t)) (fun k r c => I (ix4 0 k r c))

/-- What the scratch of the diagonal blocks' inverses holds: the inverse in its first part, and nothing in the others. -/
def Parts : Prop := ∀ (k : Fin 32) (r c : Fin 128), D (ix4 k 0 r c) = I (ix4 0 k r c) ∧ D (ix4 k 1 r c) = 0 ∧ D (ix4 k 2 r c) = 0

/-- The blocks before `k` are solved. -/
def Upto (k : ℕ) (H : Held Ideal) : Prop := ∀ (j : Fin 32) (n : Fin 256) (r : Fin 128), j.val < k →
  H.x (ix3 0 n ⟨j.val * 128 + r.val, by omega⟩) = (rowAt b hb T R L I n).x j r
  ∧ H.c (ix3 0 n ⟨j.val * 128 + r.val, by omega⟩) = (rowAt b hb T R L I n).code j r
  ∧ H.s (ix3 0 j n) = (rowAt b hb T R L I n).scale j
  ∧ H.q (ix4 j 0 r n) = (rowAt b hb T R L I n).code j r

variable {b hb T R L I D}

/-- The running sum. -/
theorem innerV_eq {H : Held Ideal} {k : ℕ} (hk : k < 32) (hH : Upto b hb T R L I k H) (n j : ℕ) (h : j + n = k) (acc : FVec Ideal S128x256 .f32)
    (ha : ∀ r m, acc (ix2 r m) = (rowAt b hb T R L I m).left j k r) (r : Fin 128) (m : Fin 256) :
    innerV b T L H hb k hk n j h acc (ix2 r m) = (rowAt b hb T R L I m).left k k r := by
  induction n generalizing j acc with
  | zero =>
    unfold innerV
    rw [ha]
    have : j = k := by omega
    rw [this]
  | succ n ih =>
    unfold innerV
    refine ih (j + 1) _ _ ?_
    intro r m
    have ht : tile j k < 496 := tile_lt hk (by omega)
    rw [accStep_apply, ha, Row.left_succ]
    have hl : ∀ c : Fin 128, window L ![0, tile j k, 0, 0] S1x1x128x128.size (inbL hk (by omega)) (ix4 0 0 r c) = (rowAt b hb T R L I m).l j k r c := by
      intro c
      refine Eq.trans (window4 _ _ _ _ _ _ 0 ⟨tile j k, ht⟩ r c 0 0 r c rfl rfl (Nat.zero_add _).symm (Nat.zero_add _).symm) ?_
      show _ = dite _ _ _
      rw [dif_pos ht]
    have hq : ∀ c : Fin 128, window H.q ![j, 0, 0, 0] S1x1x128x256.size (inbQ (by omega)) (ix4 0 0 c m) = (rowAt b hb T R L I m).code j c := by
      intro c
      refine Eq.trans (window4 _ _ _ _ _ _ ⟨j, by omega⟩ 0 c m 0 0 c m rfl rfl (Nat.zero_add _).symm (Nat.zero_add _).symm) ?_
      exact (hH ⟨j, by omega⟩ m c (by show j < k; omega)).2.2.2
    have hs : window H.s ![0, j, 0] S1x1x256.size (inbS (by omega)) (ix3 0 0 m) = (rowAt b hb T R L I m).scale j := by
      refine Eq.trans (window3 _ _ _ _ _ 0 ⟨j, by omega⟩ m 0 0 m rfl rfl (Nat.zero_add _).symm) ?_
      exact (hH ⟨j, by omega⟩ m 0 (by show j < k; omega)).2.2.1
    have hts : window T ![b, tile j k] S1x1.size (inbT hb hk (by omega)) (Shape.Idx.first (numel1_S1x1.symm ▸ Nat.one_pos)) = (rowAt b hb T R L I m).ts j k := by
      refine Eq.trans (window_at _ _ _ _ _ (ix2 ⟨b, hb⟩ ⟨tile j k, ht⟩) ?_) ?_
      · exact fun | 0 => rfl | 1 => rfl
      show _ = dite _ _ _
      rw [dif_pos ht]
    rw [hs, hts]
    refine congrArg (fun z => _ - z * _) (Finset.sum_congr rfl fun c _ => ?_)
    rw [hl, hq]

/-- Block `k`'s values. -/
theorem solvedV_eq {H : Held Ideal} {k : ℕ} (hk : k < 32) (hA : ∀ n, (rowAt b hb T R L I n).Real) (hD : Parts I D) (hH : Upto b hb T R L I k H)
    (r : Fin 128) (m : Fin 256) : solvedV b T R L D H hb k hk (ix2 r m) = (rowAt b hb T R L I m).x k r := by
  have hin := innerV_eq hk hH k 0 (Nat.zero_add k) (blockT (window R ![0, 0, k * 128] S1x256x128.size (inbR hk))) (by
    intro r m
    rw [blockT_apply, Row.left_zero]
    refine Eq.trans (window3 _ _ _ _ _ 0 m ⟨k * 128 + r.val, by omega⟩ 0 m r rfl (Nat.zero_add _).symm rfl) ?_
    show _ = dite _ _ _
    rw [dif_pos (by omega)])
  have hd : ∀ (p : Fin 3) (c : Fin 128), window D ![k, p.val, 0, 0] S1x1x128x128.size (inbP hk p.isLt) (ix4 0 0 r c) = D (ix4 ⟨k, hk⟩ p r c) := fun p c =>
    window4 _ _ _ _ _ _ ⟨k, hk⟩ p r c 0 0 r c rfl rfl (Nat.zero_add _).symm (Nat.zero_add _).symm
  unfold solvedV
  refine Eq.trans (solve_apply _ _ _ _ r m (fun c => (hd 1 c).trans (hD ⟨k, hk⟩ r c).2.1) (fun c => (hd 2 c).trans (hD ⟨k, hk⟩ r c).2.2)
    (fun c => by rw [hin]; exact (hA m).left k k c)) ?_
  show _ = ∑ c : Fin 128, (rowAt b hb T R L I m).d k r c * (rowAt b hb T R L I m).left k k c
  refine Finset.sum_congr rfl fun c _ => ?_
  rw [hin]
  refine congrArg (· * _) ((hd 0 c).trans ((hD ⟨k, hk⟩ r c).1.trans ?_))
  show _ = dite _ _ _
  rw [dif_pos hk]

/-- Writing the solved block `k` solves the blocks up to it. -/
theorem upto_putV {H : Held Ideal} {k : ℕ} (hk : k < 32) (hA : ∀ n, (rowAt b hb T R L I n).Real) (hH : Upto b hb T R L I k H)
    (x : FVec Ideal S128x256 .f32) (hx : ∀ r m, x (ix2 r m) = (rowAt b hb T R L I m).x k r) : Upto b hb T R L I (k + 1) (putV k H x) := by
  intro j n r hj
  have hrow : (fun r => x (ix2 r n)) = (rowAt b hb T R L I n).x k := funext fun r => hx r n
  have he : expo (amax x) (ix2 0 n) = wd (level (amaxOf fun r => x (ix2 r n))) := by
    rw [← amax_apply]
    refine expo_apply _ _ ?_ ?_
    · rw [amax_apply]; exact amaxOf_nonneg _
    · rw [amax_apply, hrow]; exact amaxOf_ne_top ((hA n).x k)
  have hcode : codes x (expo (amax x)) (ix2 r n) = (rowAt b hb T R L I n).code k r := by
    rw [codes_apply x _ r n he, hrow]; rfl
  by_cases hjk : j.val = k
  · refine ⟨?_, ?_, ?_, ?_⟩
    · refine Eq.trans (put3 _ _ _ _ _ _ _ _ 0 n r rfl (Nat.zero_add _).symm (by show j.val * 128 + r.val = _; rw [hjk])) ?_
      exact (storeX_apply x n r).trans ((hx r n).trans (by rw [hjk]))
    · refine Eq.trans (put3 _ _ _ _ _ _ _ _ 0 n r rfl (Nat.zero_add _).symm (by show j.val * 128 + r.val = _; rw [hjk])) ?_
      exact (storeC_apply _ n r).trans (hcode.trans (by rw [hjk]))
    · refine Eq.trans (put3 _ _ _ _ _ _ _ _ 0 0 n rfl hjk (Nat.zero_add _).symm) ?_
      rw [hjk]
      refine (storeS_apply _ n).trans ((scale_apply _ n _ he).trans ?_)
      rw [hrow]; rfl
    · refine Eq.trans (put4 _ _ _ _ _ _ _ _ _ _ 0 0 r n hjk rfl (Nat.zero_add _).symm (Nat.zero_add _).symm) ?_
      exact (storeQ_apply _ n r).trans (hcode.trans (by rw [hjk]))
  · have hlt : j.val < k := by omega
    obtain ⟨h1, h2, h3, h4⟩ := hH j n r hlt
    refine ⟨(put_off _ _ _ _ _ 2 (Or.inl ?_)).trans h1, (put_off _ _ _ _ _ 2 (Or.inl ?_)).trans h2, (put_off _ _ _ _ _ 1 (Or.inl hlt)).trans h3,
      (put_off _ _ _ _ _ 0 (Or.inl hlt)).trans h4⟩
    · show j.val * 128 + r.val < k * 128; omega
    · show j.val * 128 + r.val < k * 128; omega

/-- All blocks solved. -/
theorem blocksV_eq (hA : ∀ n, (rowAt b hb T R L I n).Real) (hD : Parts I D) (n k : ℕ) (h : k + n = 32) (H : Held Ideal) (hH : Upto b hb T R L I k H) :
    Upto b hb T R L I 32 (blocksV b T R L D hb n k h H) := by
  induction n generalizing k H with
  | zero =>
    unfold blocksV
    have : k = 32 := by omega
    rwa [this] at hH
  | succ n ih =>
    unfold blocksV
    exact ih (k + 1) _ _ (upto_putV (by omega) hA hH _ (solvedV_eq (by omega) hA hD hH))

/-- The scratch filled holds the inverses in their first parts. -/
theorem fillV_eq (hI : ∀ (k : Fin 32) (r c : Fin 128), IsReal (I (ix4 0 k r c))) (n k : ℕ) (h : k + n = 32) (D : Vec Ideal S32x3x128x128 .bf16)
    (hD : ∀ (j : Fin 32) (r c : Fin 128), j.val < k → D (ix4 j 0 r c) = I (ix4 0 j r c) ∧ D (ix4 j 1 r c) = 0 ∧ D (ix4 j 2 r c) = 0) :
    Parts I (fillV I n k h D) := by
  induction n generalizing k D with
  | zero =>
    unfold fillV
    intro j r c
    exact hD j r c (by omega)
  | succ n ih =>
    unfold fillV
    refine ih (k + 1) _ _ ?_
    intro j r c hj
    by_cases hjk : j.val = k
    · have hw : ∀ hh, dBlock (window I ![0, k, 0, 0] S1x1x128x128.size hh) (ix2 r c) = I (ix4 0 j r c) := fun hh => by
        rw [dBlock_apply]
        exact window4 _ _ _ _ _ _ 0 j r c 0 0 r c rfl hjk (Nat.zero_add _).symm (Nat.zero_add _).symm
      refine ⟨?_, ?_, ?_⟩
      · refine Eq.trans (put_off _ _ _ _ _ 1 (Or.inl (by decide : 0 < 2))) (Eq.trans (put_off _ _ _ _ _ 1 (Or.inl (by decide : 0 < 1)))
          (Eq.trans (put4 _ _ _ _ _ _ _ _ _ _ 0 0 r c hjk rfl (Nat.zero_add _).symm (Nat.zero_add _).symm) ?_))
        exact (storeD_apply _ r c).trans ((hi_apply _ _).trans (hw _))
      · refine Eq.trans (put_off _ _ _ _ _ 1 (Or.inl (by decide : 1 < 2))) (Eq.trans (put4 _ _ _ _ _ _ _ _ _ _ 0 0 r c hjk rfl (Nat.zero_add _).symm (Nat.zero_add _).symm) ?_)
        exact (storeD_apply _ r c).trans ((hi_apply _ _).trans ((rest_apply _ _).trans (by rw [hw]; exact (hI _ _ _).sub_self)))
      · refine Eq.trans (put4 _ _ _ _ _ _ _ _ _ _ 0 0 r c hjk rfl (Nat.zero_add _).symm (Nat.zero_add _).symm) ?_
        refine (storeD_apply _ r c).trans ((hi_apply _ _).trans ((rest_apply _ _).trans ?_))
        rw [rest_apply, hw, (hI _ _ _).sub_self, isReal_zero.sub_self]
    · have hlt : j.val < k := by omega
      obtain ⟨h1, h2, h3⟩ := hD j r c hlt
      exact ⟨(put_off _ _ _ _ _ 0 (Or.inl hlt)).trans ((put_off _ _ _ _ _ 0 (Or.inl hlt)).trans ((put_off _ _ _ _ _ 0 (Or.inl hlt)).trans h1)),
        (put_off _ _ _ _ _ 0 (Or.inl hlt)).trans ((put_off _ _ _ _ _ 0 (Or.inl hlt)).trans ((put_off _ _ _ _ _ 0 (Or.inl hlt)).trans h2)),
        (put_off _ _ _ _ _ 0 (Or.inl hlt)).trans ((put_off _ _ _ _ _ 0 (Or.inl hlt)).trans ((put_off _ _ _ _ _ 0 (Or.inl hlt)).trans h3))⟩

end Cert.KernelIdeal.Rolled
-- ==== Proof.Math.Rows.lean ====
/- The rows of the whole arrays, and their solutions by column. -/
module

public import proofs.«01_k».proof.Proof.Math.Row

@[expose] public section

noncomputable section

namespace Cert.Math

open Idealize.ShloMosaic

/-- Row `n` of batch `b`. -/
def rowIn (R : Fin 2 → Fin 2048 → Fin 4096 → EReal) (L : Fin 2 → Fin 496 → Fin 128 → Fin 128 → EReal) (T : Fin 2 → Fin 496 → EReal)
    (I : Fin 2 → Fin 32 → Fin 128 → Fin 128 → EReal) (b : Fin 2) (n : Fin 2048) : Row := rowOf (R b n) (L b) (T b) (I b)

/-- The solution at column `p`. -/
def Row.xAt (A : Row) (p : Fin 4096) : EReal := A.x (p.val / 128) ⟨p.val % 128, Nat.mod_lt _ (by decide)⟩
/-- Its code. -/
def Row.codeCol (A : Row) (p : Fin 4096) : EReal := A.code (p.val / 128) ⟨p.val % 128, Nat.mod_lt _ (by decide)⟩

/-- A column in its block. -/
theorem col_block (p : Fin 4096) : p = ⟨(⟨p.val / 128, by omega⟩ : Fin 32).val * 128 + (⟨p.val % 128, Nat.mod_lt _ (by decide)⟩ : Fin 128).val, by
    show p.val / 128 * 128 + p.val % 128 < 4096; omega⟩ := by
  apply Fin.ext
  show p.val = p.val / 128 * 128 + p.val % 128
  omega

theorem Row.xAt_block (A : Row) (j : Fin 32) (r : Fin 128) (h : j.val * 128 + r.val < 4096) : A.xAt ⟨j.val * 128 + r.val, h⟩ = A.x j r := by
  unfold Row.xAt
  have h1 : (j.val * 128 + r.val) / 128 = j.val := by omega
  have h2 : (⟨(j.val * 128 + r.val) % 128, Nat.mod_lt _ (by decide)⟩ : Fin 128) = r := Fin.ext (by show (j.val * 128 + r.val) % 128 = r.val; omega)
  show A.x ((j.val * 128 + r.val) / 128) _ = _
  rw [h1]; exact congrArg _ h2
theorem Row.codeCol_block (A : Row) (j : Fin 32) (r : Fin 128) (h : j.val * 128 + r.val < 4096) : A.codeCol ⟨j.val * 128 + r.val, h⟩ = A.code j r := by
  unfold Row.codeCol
  have h1 : (j.val * 128 + r.val) / 128 = j.val := by omega
  have h2 : (⟨(j.val * 128 + r.val) % 128, Nat.mod_lt _ (by decide)⟩ : Fin 128) = r := Fin.ext (by show (j.val * 128 + r.val) % 128 = r.val; omega)
  show A.code ((j.val * 128 + r.val) / 128) _ = _
  rw [h1]; exact congrArg _ h2

end Cert.Math
-- ==== Proof.Kern.Body.lean ====
/- The kernel's body at a grid point: from real numbers in its inputs it leaves every row solved. -/
module

public import proofs.«01_k».proof.Proof.Gen.KernelIdeal.Frame.Runs
public import proofs.«01_k».proof.Proof.Kern.Same
public import proofs.«01_k».proof.Proof.Kern.Sem
public import proofs.«01_k».proof.Proof.Math.Rows

@[expose] public section

set_option maxRecDepth 16384

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Math

local notation "𝕄" => MT nD τ sig Unit (Elt Ideal) ℕ (UR sig nD τ) ℕ

/-- The block of the solution, of its rows. -/
def blockX (A : Fin 256 → Row) : Vec Ideal S1x256x4096 .f32 := fun z => (A (z 1)).xAt (z 2)
/-- The block of the codes. -/
def blockC (A : Fin 256 → Row) : Vec Ideal S1x256x4096 .fp8e4m3 := fun z => (A (z 1)).codeCol (z 2)
/-- The block of the scales. -/
def blockS (A : Fin 256 → Row) : Vec Ideal S1x32x256 .f32 := fun z => (A (z 2)).scale (z 1).val
/-- The scratch of the inverses, from the inverses. -/
def parts (I : Vec Ideal S1x32x128x128 .f32) : Vec Ideal S32x3x128x128 .bf16 := fun z => if (z 1).val = 0 then I (ix4 0 (z 0) (z 2) (z 3)) else 0

theorem parts_parts (I : Vec Ideal S1x32x128x128 .f32) : Parts I (parts I) := fun k r c => ⟨rfl, rfl, rfl⟩

theorem Parts.eq {I : Vec Ideal S1x32x128x128 .f32} {D : Vec Ideal S32x3x128x128 .bf16} (h : Parts I D) : D = parts I := by
  funext z
  have hz : z = ix4 (z 0) (z 1) (z 2) (z 3) := funext fun | 0 => rfl | 1 => rfl | 2 => rfl | 3 => rfl
  rw [hz]
  have hall : ∀ (k : Fin 32) (p : Fin 3) (r c : Fin 128), D (ix4 k p r c) = parts I (ix4 k p r c) := by
    intro k p r c
    match p with
    | 0 => exact (h k r c).1
    | 1 => exact (h k r c).2.1
    | 2 => exact (h k r c).2.2
  exact hall _ _ _ _

section
variable {b : ℕ} {hb : b < 2} {T : Vec Ideal S2x496 .f32} {R : Vec Ideal S1x256x4096 .f32} {L : Vec Ideal S1x496x128x128 .fp8e4m3}
  {I : Vec Ideal S1x32x128x128 .f32} {H : Held Ideal}

theorem Upto.x_eq (h : Upto b hb T R L I 32 H) : H.x = blockX (rowAt b hb T R L I) := by
  funext z
  have hz : z = ix3 0 (z 1) (z 2) := funext fun | 0 => Fin.ext (by have := (z 0).isLt; show (z 0).val = 0; change (z 0).val < 1 at this; omega) | 1 => rfl | 2 => rfl
  show H.x z = (rowAt b hb T R L I (z 1)).xAt (z 2)
  generalize hn : (z 1 : Fin 256) = n
  generalize hp : (z 2 : Fin 4096) = p
  have hlt : p.val < 4096 := p.isLt
  rw [hz, hn, hp]
  have hj := h ⟨p.val / 128, by omega⟩ n ⟨p.val % 128, Nat.mod_lt _ (by decide)⟩ (by show p.val / 128 < 32; omega)
  exact (congrArg (fun p => H.x (ix3 0 n p)) (col_block p)).trans hj.1
theorem Upto.c_eq (h : Upto b hb T R L I 32 H) : H.c = blockC (rowAt b hb T R L I) := by
  funext z
  have hz : z = ix3 0 (z 1) (z 2) := funext fun | 0 => Fin.ext (by have := (z 0).isLt; show (z 0).val = 0; change (z 0).val < 1 at this; omega) | 1 => rfl | 2 => rfl
  show H.c z = (rowAt b hb T R L I (z 1)).codeCol (z 2)
  generalize hn : (z 1 : Fin 256) = n
  generalize hp : (z 2 : Fin 4096) = p
  have hlt : p.val < 4096 := p.isLt
  rw [hz, hn, hp]
  have hj := h ⟨p.val / 128, by omega⟩ n ⟨p.val % 128, Nat.mod_lt _ (by decide)⟩ (by show p.val / 128 < 32; omega)
  exact (congrArg (fun p => H.c (ix3 0 n p)) (col_block p)).trans hj.2.1
theorem Upto.s_eq (h : Upto b hb T R L I 32 H) : H.s = blockS (rowAt b hb T R L I) := by
  funext z
  have hz : z = ix3 0 (z 1) (z 2) := funext fun | 0 => Fin.ext (by have := (z 0).isLt; show (z 0).val = 0; change (z 0).val < 1 at this; omega) | 1 => rfl | 2 => rfl
  show H.s z = (rowAt b hb T R L I (z 2)).scale (z 1).val
  generalize hn : (z 1 : Fin 32) = j
  generalize hp : (z 2 : Fin 256) = n
  rw [hz, hn, hp]
  exact (h j n 0 j.isLt).2.2.1
end

variable (c : Dev nD) (E : Set ℕ)
  (i : grid0.Coords) (arg2 : Memref sig .tc .smem S2x496 .f32) (harg2 : arg2.IsWhole) (arg3 : Memref sig .tc .vmem S1x256x4096 .f32) (harg3 : arg3.IsWhole)
  (arg4 : Memref sig .tc .vmem S1x496x128x128 .fp8e4m3) (harg4 : arg4.IsWhole) (arg5 : Memref sig .tc .vmem S1x32x128x128 .f32) (harg5 : arg5.IsWhole)
  (arg6 : Memref sig .tc .vmem S1x256x4096 .f32) (harg6 : arg6.IsWhole) (arg7 : Memref sig .tc .vmem S1x256x4096 .fp8e4m3) (harg7 : arg7.IsWhole)
  (arg8 : Memref sig .tc .vmem S1x32x256 .f32) (harg8 : arg8.IsWhole) (arg9 : Memref sig .tc .vmem S32x1x128x256 .fp8e4m3) (harg9 : arg9.IsWhole)
  (arg10 : Memref sig .tc .vmem S32x3x128x128 .bf16) (harg10 : arg10.IsWhole)
  (T : Vec Ideal S2x496 .f32) (R : Vec Ideal S1x256x4096 .f32) (L : Vec Ideal S1x496x128x128 .fp8e4m3) (I : Vec Ideal S1x32x128x128 .f32)

/-- What the body leaves. -/
def left (A : Fin 256 → Row) : sProp 𝕄 :=
  iprop(owns (c : Thread nD τ) arg2 fullShare T ∗ owns (c : Thread nD τ) arg3 fullShare R ∗ owns (c : Thread nD τ) arg4 fullShare L ∗ owns (c : Thread nD τ) arg5 fullShare I
    ∗ owns (c : Thread nD τ) arg6 fullShare (blockX A) ∗ owns (c : Thread nD τ) arg7 fullShare (blockC A) ∗ owns (c : Thread nD τ) arg8 fullShare (blockS A)
    ∗ (∃ d, owns (c : Thread nD τ) arg9 fullShare d) ∗ owns (c : Thread nD τ) arg10 fullShare (parts I))

/-- The blocks, from the parts of the inverses. -/
theorem wp_solved (hA : ∀ n, (rowAt (batchOf i) (batch_lt i) T R L I n).Real) (Q : PUnit → sProp 𝕄) :
    iprop(owns (c : Thread nD τ) arg2 fullShare T ∗ owns (c : Thread nD τ) arg3 fullShare R ∗ owns (c : Thread nD τ) arg4 fullShare L ∗ owns (c : Thread nD τ) arg5 fullShare I
      ∗ (∃ d, owns (c : Thread nD τ) arg6 fullShare d) ∗ (∃ d, owns (c : Thread nD τ) arg7 fullShare d) ∗ (∃ d, owns (c : Thread nD τ) arg8 fullShare d)
      ∗ (∃ d, owns (c : Thread nD τ) arg9 fullShare d) ∗ owns (c : Thread nD τ) arg10 fullShare (parts I)
      ∗ (left c arg2 arg3 arg4 arg5 arg6 arg7 arg8 arg9 arg10 T R L I (rowAt (batchOf i) (batch_lt i) T R L I) -∗ Q ⟨⟩))
      ⊢ wp frame (wpE (defs₀ (F := Ideal)) Variants.none c none) E (blocks i arg2 arg3 arg4 arg6 arg7 harg7 arg8 arg9 harg9 arg10 32 0 rfl) Q := by
  unfold left
  iintro ⟨H2, H3, H4, H5, ⟨%d6, H6⟩, ⟨%d7, H7⟩, ⟨%d8, H8⟩, ⟨%d9, H9⟩, H10, Hk⟩
  have hU : Upto (batchOf i) (batch_lt i) T R L I 32 (blocksV (batchOf i) T R L (parts I) (batch_lt i) 32 0 rfl ⟨d6, d7, d8, d9⟩) :=
    blocksV_eq hA (parts_parts I) 32 0 rfl ⟨d6, d7, d8, d9⟩ fun j n r h => absurd h (Nat.not_lt_zero _)
  iapply (wp_blocks c E i arg2 arg3 arg4 arg6 arg7 harg7 arg8 arg9 harg9 arg10 T R L (parts I) Q 32 0 rfl ⟨d6, d7, d8, d9⟩)
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  rw [hU.x_eq, hU.c_eq, hU.s_eq]
  iintro ⟨H2, H3, H4, H6, H7, H8, H9, H10⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexact H10

/-- The body at a batch's later points: the scratch already holds the inverses' parts. -/
theorem wp_later (h : ¬cond0_0 i) (hA : ∀ n, (rowAt (batchOf i) (batch_lt i) T R L I n).Real) (Q : PUnit → sProp 𝕄) :
    iprop(owns (c : Thread nD τ) arg2 fullShare T ∗ owns (c : Thread nD τ) arg3 fullShare R ∗ owns (c : Thread nD τ) arg4 fullShare L ∗ owns (c : Thread nD τ) arg5 fullShare I
      ∗ (∃ d, owns (c : Thread nD τ) arg6 fullShare d) ∗ (∃ d, owns (c : Thread nD τ) arg7 fullShare d) ∗ (∃ d, owns (c : Thread nD τ) arg8 fullShare d)
      ∗ (∃ d, owns (c : Thread nD τ) arg9 fullShare d) ∗ owns (c : Thread nD τ) arg10 fullShare (parts I)
      ∗ (left c arg2 arg3 arg4 arg5 arg6 arg7 arg8 arg9 arg10 T R L I (rowAt (batchOf i) (batch_lt i) T R L I) -∗ Q ⟨⟩))
      ⊢ wp frame (wpE (defs₀ (F := Ideal)) Variants.none c none) E
          (cc0_block_solve i arg2 harg2 arg3 harg3 arg4 harg4 arg5 harg5 arg6 harg6 arg7 harg7 arg8 harg8 arg9 harg9 arg10 harg10) Q := by
  rw [body_later i arg2 harg2 arg3 harg3 arg4 harg4 arg5 harg5 arg6 harg6 arg7 harg7 arg8 harg8 arg9 harg9 arg10 harg10 h]
  exact wp_solved c E i arg2 arg3 arg4 arg5 arg6 arg7 harg7 arg8 arg9 harg9 arg10 T R L I hA Q

/-- The body at a batch's first point: it fills the scratch itself. -/
theorem wp_first (h : cond0_0 i) (hI : ∀ (k : Fin 32) (r c : Fin 128), IsReal (I (ix4 0 k r c))) (hA : ∀ n, (rowAt (batchOf i) (batch_lt i) T R L I n).Real)
    (Q : PUnit → sProp 𝕄) :
    iprop(owns (c : Thread nD τ) arg2 fullShare T ∗ owns (c : Thread nD τ) arg3 fullShare R ∗ owns (c : Thread nD τ) arg4 fullShare L ∗ owns (c : Thread nD τ) arg5 fullShare I
      ∗ (∃ d, owns (c : Thread nD τ) arg6 fullShare d) ∗ (∃ d, owns (c : Thread nD τ) arg7 fullShare d) ∗ (∃ d, owns (c : Thread nD τ) arg8 fullShare d)
      ∗ (∃ d, owns (c : Thread nD τ) arg9 fullShare d) ∗ (∃ d, owns (c : Thread nD τ) arg10 fullShare d)
      ∗ (left c arg2 arg3 arg4 arg5 arg6 arg7 arg8 arg9 arg10 T R L I (rowAt (batchOf i) (batch_lt i) T R L I) -∗ Q ⟨⟩))
      ⊢ wp frame (wpE (defs₀ (F := Ideal)) Variants.none c none) E
          (cc0_block_solve i arg2 harg2 arg3 harg3 arg4 harg4 arg5 harg5 arg6 harg6 arg7 harg7 arg8 harg8 arg9 harg9 arg10 harg10) Q := by
  rw [body_first i arg2 harg2 arg3 harg3 arg4 harg4 arg5 harg5 arg6 harg6 arg7 harg7 arg8 harg8 arg9 harg9 arg10 harg10 h]
  iintro ⟨H2, H3, H4, H5, H6, H7, H8, H9, ⟨%d10, H10⟩, Hk⟩
  iapply (wp_fill c E arg5 arg10 harg10 I _ Q 32 0 rfl d10)
  isplitl [H5]; · iexact H5
  isplitl [H10]; · iexact H10
  rw [(fillV_eq hI 32 0 rfl d10 fun j r c h => absurd h (Nat.not_lt_zero _)).eq]
  iintro ⟨H5, H10⟩
  iapply (wp_solved c E i arg2 arg3 arg4 arg5 arg6 arg7 harg7 arg8 arg9 harg9 arg10 T R L I hA Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hk

end Cert.KernelIdeal.Rolled
-- ==== Proof.Kern.Values.lean ====
/- The kernel's run over the extended reals: from real numbers in its arguments its results end as the rows' solutions. -/
module

public import proofs.«01_k».proof.Proof.Kern.Body
public import Idealize.ShloMosaic.Lib.Pipeline.ValueKit

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Rolled Cert.Math

local notation "𝕄" => MT nD τ sig Unit (Elt Ideal) ℕ (UR sig nD τ) ℕ

variable (m : (ℓ : Loc nD τ sig) → Buf (Elt Ideal) ℓ) (ρ : Dev nD → PrngReg)

/-- Row `n` of batch `b` of the arrays that the pipeline reads. -/
def row (c : Dev nD) : Fin 2 → Fin 2048 → Row :=
  rowIn (fun b n p => V m c main_arg0 (ix3 b n p)) (fun b t r k => V m c main_v0 (ix4 b t r k)) (fun b t => V m c main_arg2 (ix2 b t))
    (fun b k r q => V m c main_arg3 (ix4 b k r q))

/-- The arrays that the pipeline reads hold real numbers only. -/
structure AllReal : Prop where
  rhs : ∀ (c : Dev nD) (b : Fin 2) (n : Fin 2048) (p : Fin 4096), IsReal (V m c main_arg0 (ix3 b n p))
  l : ∀ (c : Dev nD) (b : Fin 2) (t : Fin 496) (r k : Fin 128), IsReal (V m c main_v0 (ix4 b t r k))
  ts : ∀ (c : Dev nD) (b : Fin 2) (t : Fin 496), IsReal (V m c main_arg2 (ix2 b t))
  d : ∀ (c : Dev nD) (b : Fin 2) (k : Fin 32) (r q : Fin 128), IsReal (V m c main_arg3 (ix4 b k r q))

variable {m} in
theorem AllReal.row (h : AllReal m) (c : Dev nD) (b : Fin 2) (n : Fin 2048) : (row m c b n).Real :=
  Row.real_rowOf (fun p => h.rhs c b n p) (fun t r k => h.l c b t r k) (fun t => h.ts c b t) (fun k r q => h.d c b k r q)

/-! ## The blocks' places -/

theorem pt_lt (t : Fin cfg0.N) : t.val < 16 := lt_of_lt_of_eq t.isLt N_0
/-- The batch of a grid point. -/
def bat (t : Fin cfg0.N) : Fin 2 := ⟨t.val / 8, by have := pt_lt t; omega⟩
/-- The array's row of a grid point's row. -/
def at_ (t : Fin cfg0.N) (n : Fin 256) : Fin 2048 := ⟨t.val % 8 * 256 + n.val, by omega⟩

theorem coords_0 (t : Fin cfg0.N) : (grid0.coords t 0).val = t.val / 8 :=
  (by decide +kernel : ∀ t : Fin grid0.N, (grid0.coords t 0).val = t.val / 8) t

theorem idx : ∀ t : Fin grid0.N, win0_0.index t = ![0, 0] ∧ win0_1.index t = ![t.val / 8, t.val % 8, 0] ∧ win0_2.index t = ![t.val / 8, 0, 0, 0]
    ∧ win0_3.index t = ![t.val / 8, 0, 0, 0] ∧ win0_4.index t = ![t.val / 8, t.val % 8, 0] ∧ win0_5.index t = ![t.val / 8, t.val % 8, 0]
    ∧ win0_6.index t = ![t.val / 8, 0, t.val % 8] := by decide +kernel

variable (c : Dev nD)

theorem iblk_0 (t : Fin cfg0.N) (b : Fin 2) (s : Fin 496) : iblk m c 0 t (ix2 b s) = V m c main_arg2 (ix2 b s) := by
  have e := (idx t).1
  blk_ext [iblk, e]
theorem iblk_1 (t : Fin cfg0.N) (n : Fin 256) (p : Fin 4096) : iblk m c 1 t (ix3 0 n p) = V m c main_arg0 (ix3 (bat t) (at_ t n) p) := by
  have e := (idx t).2.1
  unfold bat at_
  blk_ext [iblk, e]
theorem iblk_2 (t : Fin cfg0.N) (s : Fin 496) (r k : Fin 128) : iblk m c 2 t (ix4 0 s r k) = V m c main_v0 (ix4 (bat t) s r k) := by
  have e := (idx t).2.2.1
  unfold bat
  blk_ext [iblk, e]
theorem iblk_3 (t : Fin cfg0.N) (s : Fin 32) (r k : Fin 128) : iblk m c 3 t (ix4 0 s r k) = V m c main_arg3 (ix4 (bat t) s r k) := by
  have e := (idx t).2.2.2.1
  unfold bat
  blk_ext [iblk, e]

/-- The rows of a grid point are the array's. -/
theorem rows_eq (t : Fin cfg0.N) :
    rowAt (batchOf (grid0.coords t)) (batch_lt (grid0.coords t)) (iblk m c 0 t) (iblk m c 1 t) (iblk m c 2 t) (iblk m c 3 t)
      = fun n => row m c (bat t) (at_ t n) := by
  funext n
  have hb : (⟨batchOf (grid0.coords t), batch_lt (grid0.coords t)⟩ : Fin 2) = bat t := Fin.ext ((batchOf_eq _).trans (coords_0 t))
  unfold rowAt row rowIn
  rw [hb]
  congr 1
  · funext p; exact iblk_1 m c t n p
  · funext s r k; exact iblk_2 m c t s r k
  · funext s; exact iblk_0 m c t (bat t) s
  · funext k r q; exact iblk_3 m c t k r q

/-- The parts of the inverses are the batch's, the same at each of its points. -/
theorem parts_eq (t u : Fin cfg0.N) (h : t.val / 8 = u.val / 8) : parts (iblk m c 3 t) = parts (iblk m c 3 u) := by
  funext z
  unfold parts
  have hb : bat t = bat u := Fin.ext h
  refine congrArg (fun x => if (z 1).val = 0 then x else 0) ?_
  refine Eq.trans (iblk_3 m c t (z 0) (z 2) (z 3)) (Eq.trans ?_ (iblk_3 m c u (z 0) (z 2) (z 3)).symm)
  rw [hb]

/-! ## The pipeline's proof data -/

/-- The invariant: before the first point nothing is known of the scratch; after a point it holds the batch's inverses in parts. -/
def Phi : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (parts (iblk m c 3 ⟨n, hn⟩))) ∗ (∃ r, prngReg c r))

theorem Phi_zero (n : ℕ) (h : n ≤ cfg0.N) (hz : n = 0) : Phi m c n h = Pipeline.ΦA spec0 c := by
  subst hz; rfl
theorem Phi_succ (n : ℕ) (hn : n < cfg0.N) :
    Phi m c (n + 1) hn = iprop(iprop((∃ d, owns (c : Thread nD τ) scM0_0 fullShare d) ∗ owns (c : Thread nD τ) scM0_1 fullShare (parts (iblk m c 3 ⟨n, hn⟩))) ∗ (∃ r, prngReg c r)) := rfl
theorem Phi_pos (n : ℕ) (h : n ≤ cfg0.N) (hz : n ≠ 0) :
    Phi m c n h = iprop(iprop((∃ d, owns (c : Thread nD τ) scM0_0 fullShare d) ∗ owns (c : Thread nD τ) scM0_1 fullShare (parts (iblk m c 3 ⟨n - 1, by omega⟩))) ∗ (∃ r, prngReg c r)) := by
  cases n with
  | zero => exact absurd rfl hz
  | succ n => rfl

/-- The proof data: each input's buffer at its block, each output's at the rows' solutions. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockX (fun n => row m c (bat t) (at_ t n))
    | ⟨5, _⟩ => blockC (fun n => row m c (bat t) (at_ t n))
    | ⟨6, _⟩ => blockS (fun n => row m c (bat t) (at_ t n))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (t : Fin cfg0.N) : (dats m 0 c).Φ t.castSucc = Phi m c t.val (Nat.le_of_lt t.isLt) := by
  dsimp only [dats]; exact Pipeline.Dat.Φ_castSucc (Phi m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = blockX (fun n => row m c (bat t) (at_ t n)) := by dsimp only [dats]
theorem after_5 (t : Fin cfg0.N) : (dats m 0 c).after 5 t = blockC (fun n => row m c (bat t) (at_ t n)) := by dsimp only [dats]
theorem after_6 (t : Fin cfg0.N) : (dats m 0 c).after 6 t = blockS (fun n => row m c (bat t) (at_ t n)) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d

/-! ## The body obligation -/

/-- What the body is called with at point `t`. -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- What the body leaves gives what it returns. -/
theorem left_post (t : Fin cfg0.N) :
    iprop(left c (ms0_0 t) (ms0_1 t) (ms0_2 t) (ms0_3 t) (ms0_4 t) (ms0_5 t) (ms0_6 t) scM0_0 scM0_1 (iblk m c 0 t) (iblk m c 1 t) (iblk m c 2 t) (iblk m c 3 t)
        (fun n => row m c (bat t) (at_ t n)) ∗ (dats m 0 c).owesAt () t.castSucc ∗ (∃ r, prngReg c r)) ⊢ bodyPost m c t := by
  unfold bodyPost left
  rw [show (dats m 0 c).owesAt () t.succ = (dats m 0 c).owesAt () t.castSucc from rfl,
    after_0, after_1, after_2, after_3, after_4, after_5, after_6]
  rw [show (dats m 0 c).Φ t.succ = Phi m c (t.val + 1) t.isLt from rfl, Phi_succ]
  iintro ⟨⟨H0, H1, H2, H3, H4, H5, H6, HS0, HS1⟩, Ho, Hg⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A batch's first points, whatever the scratch holds. -/
theorem sound_first (h : AllReal m) (t : Fin cfg0.N) (h0 : t.val % 8 = 0) :
    iprop(iprop(iprop((∃ d, owns (c : Thread nD τ) scM0_0 fullShare d) ∗ (∃ d, owns (c : Thread nD τ) scM0_1 fullShare d)) ∗ (∃ r, prngReg c r)) ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
      ⊢ wp frame (wpE (defs₀ (F := Ideal)) Variants.none c none) Set.univ (bodyAt0 t) (fun _ => bodyPost m c t) := by
  unfold bodyAt0
  simp only [before_0, before_1, before_2, before_3]
  have hA : ∀ n, (rowAt (batchOf (grid0.coords t)) (batch_lt (grid0.coords t)) (iblk m c 0 t) (iblk m c 1 t) (iblk m c 2 t) (iblk m c 3 t) n).Real := by
    rw [rows_eq]; exact fun n => h.row c _ _
  have hI : ∀ (k : Fin 32) (r q : Fin 128), IsReal (iblk m c 3 t (ix4 0 k r q)) := fun k r q => by rw [iblk_3]; exact h.d c _ _ _ _
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (wp_first c Set.univ (grid0.coords t) _ _ _ _ _ _ _ _ _ _ _ _ _ _ _ _ _ _ (iblk m c 0 t) (iblk m c 1 t) (iblk m c 2 t) (iblk m c 3 t) ((hcond0_0 t).mpr h0) hI hA _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro Hl
  iapply (left_post m c t)
  rw [rows_eq]
  isplitl [Hl]; · iexact Hl
  isplitl [Ho]; · iexact Ho
  iexact Hg

/-- The body at any point. -/
theorem sound_body (h : AllReal m) (t : Fin cfg0.N) :
    bodyPre m c t ⊢ wp frame (wpE (defs₀ (F := Ideal)) Variants.none c none) Set.univ (bodyAt0 t) (fun _ => bodyPost m c t) := by
  by_cases h0 : t.val % 8 = 0
  · refine BIBase.Entails.trans ?_ (sound_first m c h t h0)
    unfold bodyPre
    by_cases hz : t.val = 0
    · rw [Phi_castSucc m c t, Phi_zero m c _ _ hz, PhiA0_eq]
    · rw [Phi_castSucc m c t, Phi_pos m c _ _ hz]
      iintro ⟨⟨⟨HS0, HS1⟩, Hg⟩, Hr⟩
      isplitl [HS0 HS1 Hg]
      · isplitl [HS0 HS1]
        · isplitl [HS0]; · iexact HS0
          iexists _; iexact HS1
        iexact Hg
      iexact Hr
  · have hz : t.val ≠ 0 := fun hz => h0 (by rw [hz])
    unfold bodyPre bodyAt0
    simp only [before_0, before_1, before_2, before_3]
    rw [Phi_castSucc m c t, Phi_pos m c _ _ hz, parts_eq m c ⟨t.val - 1, _⟩ t (by show (t.val - 1) / 8 = t.val / 8; omega)]
    have hA : ∀ n, (rowAt (batchOf (grid0.coords t)) (batch_lt (grid0.coords t)) (iblk m c 0 t) (iblk m c 1 t) (iblk m c 2 t) (iblk m c 3 t) n).Real := by
      rw [rows_eq]; exact fun n => h.row c _ _
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (wp_later c Set.univ (grid0.coords t) _ _ _ _ _ _ _ _ _ _ _ _ _ _ _ _ _ _ (iblk m c 0 t) (iblk m c 1 t) (iblk m c 2 t) (iblk m c 3 t) (fun h => h0 ((hcond0_0 t).mp h)) hA _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro Hl
    iapply (left_post m c t)
    rw [rows_eq]
    isplitl [Hl]; · iexact Hl
    isplitl [Ho]; · iexact Ho
    iexact Hg

theorem defs₀_row (t : Fin cfg0.N) :
    defs₀ (F := Ideal) .tc cfg0.body (cfg0.bodyArgs t (cfg0.slots t)) = bodyAt0 t := by
  unfold defs₀; rw [Defs.onTc_tc]

theorem body_obligation (h : AllReal m) (c : Dev nD) : BodyObligation (dats m 0 c) (defs₀ (F := Ideal)) Variants.none () Set.univ := fun t => by
  rw [bigSep_W0, bigSep_W0, defs₀_row]
  exact triple_restated (sound_body m c h t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c cfg0.N (Nat.le_refl _) from rfl, Phi_pos m c _ _ (by have : cfg0.N = 16 := N_0; omega), PhiA0_eq]
  iintro ⟨⟨HS0, HS1⟩, Hg⟩
  isplitl [HS0 HS1]
  · isplitl [HS0]
    · iexact HS0
    iexists _; iexact HS1
  iexact Hg

/-! ## The run -/

set_option backward.isDefEq.respectTransparency.types false in
/-- The run: every array of the pipeline ends as the proof data says, every other buffer as the swap of axes after it leaves it. -/
theorem run_main (h : AllReal m) : θ_run defs (onTc (τ := τ) (main (F := Ideal))) (s₀ m ρ) (Pipeline.FramePost cfgs (dats m) 0 (Pipeline.afterTail₀ cfgs (dats m) 0 (V0 m) [hostOps1])) :=
  (θ_run defs _ _).mono (fun _ (h : _ ∧ _) => h.1) (Pipeline.θ_run_frame_around_track (Q' := _) cfgs (dats m) (0 : Fin 1) launch0 defs₀ Variants.none m ρ main
    (hbody := fun c => (body_obligation m h c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hin := hin m) (hout := hout m))

/-! ## The results -/

/-- The solution. -/
def X : Buf (Elt Ideal) ((c.tc : Thread nD τ).loc main_v1_0) := fun z : S2x2048x4096.Idx => (row m c (z 0) (z 1)).xAt (z 2)
/-- Its codes. -/
def C : Buf (Elt Ideal) ((c.tc : Thread nD τ).loc main_v1_1) := fun z : S2x2048x4096.Idx => (row m c (z 0) (z 1)).codeCol (z 2)
/-- Its scales. -/
def S : Buf (Elt Ideal) ((c.tc : Thread nD τ).loc main_v1_2) := fun z : S2x32x2048.Idx => (row m c (z 0) (z 2)).scale (z 1).val

theorem arr_4 : (dats m 0 c).arrAt 4 cfg0.N = X m c := by
  refine (dats m 0 c).arrAt_eq_of_covers 4 _ (by decide +kernel) fun t hf y => ?_
  blk_simp
  rw [after_4]
  have e := (idx t).2.2.2.2.1
  have h0 : ((win0_4.blk t).view.emb y) 0 = bat t := Fin.ext (by unfold bat; blk_simp [e])
  have h1 : ((win0_4.blk t).view.emb y) 1 = at_ t (y 1) := Fin.ext (by unfold at_; blk_simp [e])
  have h2 : ((win0_4.blk t).view.emb y) 2 = y 2 := Fin.ext (by blk_simp [e])
  show (row m c (bat t) (at_ t (y 1))).xAt (y 2) = (row m c (((win0_4.blk t).view.emb y) 0) (((win0_4.blk t).view.emb y) 1)).xAt (((win0_4.blk t).view.emb y) 2)
  rw [h0, h1, h2]
theorem arr_5 : (dats m 0 c).arrAt 5 cfg0.N = C m c := by
  refine (dats m 0 c).arrAt_eq_of_covers 5 _ (by decide +kernel) fun t hf y => ?_
  blk_simp
  rw [after_5]
  have e := (idx t).2.2.2.2.2.1
  have h0 : ((win0_5.blk t).view.emb y) 0 = bat t := Fin.ext (by unfold bat; blk_simp [e])
  have h1 : ((win0_5.blk t).view.emb y) 1 = at_ t (y 1) := Fin.ext (by unfold at_; blk_simp [e])
  have h2 : ((win0_5.blk t).view.emb y) 2 = y 2 := Fin.ext (by blk_simp [e])
  show (row m c (bat t) (at_ t (y 1))).codeCol (y 2) = (row m c (((win0_5.blk t).view.emb y) 0) (((win0_5.blk t).view.emb y) 1)).codeCol (((win0_5.blk t).view.emb y) 2)
  rw [h0, h1, h2]
theorem arr_6 : (dats m 0 c).arrAt 6 cfg0.N = S m c := by
  refine (dats m 0 c).arrAt_eq_of_covers 6 _ (by decide +kernel) fun t hf y => ?_
  blk_simp
  rw [after_6]
  have e := (idx t).2.2.2.2.2.2
  have h0 : ((win0_6.blk t).view.emb y) 0 = bat t := Fin.ext (by unfold bat; blk_simp [e])
  have h1 : ((win0_6.blk t).view.emb y) 1 = y 1 := Fin.ext (by blk_simp [e])
  have h2 : ((win0_6.blk t).view.emb y) 2 = at_ t (y 2) := Fin.ext (by unfold at_; blk_simp [e])
  show (row m c (bat t) (at_ t (y 2))).scale (y 1).val = (row m c (((win0_6.blk t).view.emb y) 0) (((win0_6.blk t).view.emb y) 2)).scale (((win0_6.blk t).view.emb y) 1).val
  rw [h0, h1, h2]

/-- The scales, with a row's scales beside each other. -/
def T : Buf (Elt Ideal) ((c.tc : Thread nD τ).loc main_v2) := fun z : S2x2048x32.Idx => (row m c (z 0) (z 1)).scale (z 2).val

/-- The swap of axes after the pipeline gives them. -/
theorem tail_scales : Pipeline.afterTail₀ cfgs (dats m) 0 (V0 m) [hostOps1] c main_v2 = T m c := by
  unfold Pipeline.afterTail₀
  show StableHlo.after hostOps1 _ (Proc.devRef .tc main_v2) = _
  simp only [StableHlo.after_cons, StableHlo.after_nil]
  rw [StableHlo.unary_result]
  erw [Pipeline.withArrays_arr spec0 launch0.win.arr_inj c (V0 m c) (fun w => (dats m 0 c).arrAt w cfg0.N) 6]
  rw [arr_6]
  rfl

/-- The run, read: the three results, and the arguments unchanged. -/
theorem run (h : AllReal m) : θ_run defs (onTc (τ := τ) (main (F := Ideal))) ⟨m, fun _ => 0, ρ⟩ fun r => ∀ c : Dev nD,
      r.2.mem ((c.tc : Thread nD τ).loc main_v1_0) = X m c
      ∧ r.2.mem ((c.tc : Thread nD τ).loc main_v1_1) = C m c
      ∧ r.2.mem ((c.tc : Thread nD τ).loc main_v2) = T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (arr_4 m c), ((h.1 c).1 5).trans (arr_5 m c), ((h.1 c).2 main_v2 (Pipeline.mem_restRefs_of main_v2 (by decide) (by decide))).trans (tail_scales m c), h.2 c⟩)
    (θ_run_and (run_main m ρ h) (frame_of m ρ (dats m) (A_eq m) (run_main m ρ h)))

end Cert.KernelIdeal.Values
-- ==== Proof.Ref.Elem.lean ====
/- The reference's operations read at an element, as extended reals, and the places its loops address. -/
module

public import proofs.«01_k».proof.Proof.Gen.ReferenceIdeal.Skeleton
public import Idealize.ShloMosaic.Lib.Pointwise
public import proofs.«01_k».proof.Proof.Math.Row

@[expose] public section

set_option maxRecDepth 16384

noncomputable section

namespace Cert.ReferenceIdeal.Solve

open Idealize.ShloMosaic Idealize.SL.Sem Cert.ReferenceIdeal.Gen Cert.Math

/-! ## The payloads -/

theorem pay1_eq (v : Vec Ideal S2x2048x4096 .f32) : k0_pay1 v = v := by
  funext z
  have hz : z = ix3 (z 0) (z 1) (z 2) := funext fun | 0 => rfl | 1 => rfl | 2 => rfl
  rw [hz]
  generalize (z 0 : Fin 2) = a
  generalize (z 1 : Fin 2048) = b
  generalize (z 2 : Fin 4096) = d
  pointwise [k0_pay1]

/-- The product with the inverse of a diagonal block. -/
theorem pay7_apply (s : Vec Ideal S1x2048x128 .f32) (d : Vec Ideal S1x1x128x128 .f32) (n : Fin 2048) (r : Fin 128) :
    k0_pay7 s d (ix2 n r) = ∑ c : Fin 128, s (ix3 0 n c) * d (ix4 0 0 r c) := by
  pointwise [k0_pay7]

theorem ofBits_bot : Ideal.ofBits .f32 4286578688#32 = ⊥ := by
  show Ideal.ieee 8 23 4286578688#32 = ⊥
  unfold Ideal.ieee
  simp

/-- The powers of two that a scale is chosen from. -/
theorem pow_word (k : Fin 246) : Ideal.ofBits .f32 (IntOp.shli .vector (IntOp.addi (BitVec.ofNat 32 k.val) 1#32) 23#32) = pw (k.val + 1) := by
  have h : ∀ k : Fin 246, IntOp.shli .vector (IntOp.addi (BitVec.ofNat 32 k.val) 1#32) 23#32 = wd (k.val + 1) := by decide +kernel
  rw [h k]
  exact ofBits_wd (by omega) (by have := k.isLt; omega)

theorem ofBits_two : Ideal.ofBits .f32 1073741824#32 = 2 := by
  show Ideal.ieee 8 23 1073741824#32 = 2
  unfold Ideal.ieee
  simp only [show ((1073741824#32).extractLsb' 23 8).toNat = 128 by decide, show ((1073741824#32).extractLsb' 0 23).toNat = 0 by decide,
    show ((1073741824#32).extractLsb' (8 + 23) 1 == 1#1) = false by decide]
  rw [if_neg (by norm_num), if_neg (by norm_num)]
  simp only [Bool.false_eq_true, if_false, one_mul]
  norm_num
  rfl

/-- The scale of a block. -/
theorem pay8_apply (s : Vec Ideal S1x2048x128 .f32) (d : Vec Ideal S1x1x128x128 .f32) (n : Fin 2048) :
    k0_pay8 s d (ix2 n 0) = scaleAt fun r => k0_pay7 s d (ix2 n r) := by
  unfold scaleAt
  rw [← scaleOf_eq, ← fold_powers]
  unfold amaxOf
  generalize hx : k0_pay7 s d = x
  pointwise [k0_pay8, hx]
  simp only [ofBits_bot, ofBits_two, pow_word]
  rfl

/-- The codes of a block. -/
theorem pay9_apply (s : Vec Ideal S1x2048x128 .f32) (d : Vec Ideal S1x1x128x128 .f32) (n : Fin 2048) (r : Fin 128) :
    k0_pay9 s d (ix2 n r) = codeAt (fun r => k0_pay7 s d (ix2 n r)) r := by
  have h := pay8_apply s d n
  unfold codeAt
  rw [← div_scaleOf]
  unfold scaleAt at h
  rw [← h]
  pointwise [k0_pay9]

theorem pay2_apply (x : FVec Ideal S2048x128 .f32) (n : Fin 2048) (r : Fin 128) : k0_pay2 x (ix2 n r) = x (ix2 n r) := by
  pointwise [k0_pay2]
theorem pay3_apply (x : FVec Ideal S2048x128 .f32) (n : Fin 2048) (r : Fin 128) : k0_pay3 x (ix3 0 n r) = x (ix2 n r) := by
  pointwise [k0_pay3]
theorem pay4_apply (x : FVec Ideal S2048x128 .f32) (n : Fin 2048) (r : Fin 128) : k0_pay4 x (ix3 0 n r) = x (ix2 n r) := by
  pointwise [k0_pay4, pay2_apply]
theorem pay5_apply (x : FVec Ideal S2048x1 .f32) (n : Fin 2048) : k0_pay5 x (ix3 0 0 n) = x (ix2 n 0) := by
  pointwise [k0_pay5]

/-- A contribution taken off. -/
theorem pay6_apply (s : FVec Ideal S2048x1 .f32) (q : FVec Ideal S2048x128 .f32) (l : Vec Ideal S1x1x128x128 .fp8e4m3) (x : Vec Ideal S1x2048x128 .f32) (ts : Elt Ideal .f32)
    (n : Fin 2048) (r : Fin 128) :
    k0_pay6 s q l x ts (ix3 0 n r) = x (ix3 0 n r) + (0 - ((∑ c : Fin 128, q (ix2 n c) * l (ix4 0 0 r c)) * ts) * s (ix2 n 0)) := by
  pointwise [k0_pay6, pay2_apply]

/-! ## The places addressed -/

theorem trips1 : k0_t1_loop.trips = 32 := by decide +kernel
theorem trips2 : k0_t2_loop.trips = 2 := by decide +kernel
theorem trips3 : k0_t3_loop.trips = 32 := by decide +kernel

theorem off1_eq : ∀ (i : Fin k0_t1_loop.trips) (b : Fin k0_t2_loop.trips), k0_off1 i b = ![b.val, 0, i.val * 128] := by decide +kernel
theorem off2_eq : ∀ (i : Fin k0_t1_loop.trips) (b : Fin k0_t2_loop.trips), k0_off2 i b = ![b.val, i.val, 0, 0] := by decide +kernel
theorem off3_eq : ∀ (i : Fin k0_t1_loop.trips) (b : Fin k0_t2_loop.trips), k0_off3 i b = ![b.val, i.val, 0] := by decide +kernel
theorem off4_eq : ∀ (i : Fin k0_t1_loop.trips) (b : Fin k0_t2_loop.trips) (k : Fin k0_t3_loop.trips), i.val < k.val → k0_off4 i b k = ![b.val, tile i.val k.val, 0, 0] := by decide +kernel
theorem off5_eq : ∀ (b : Fin k0_t2_loop.trips) (k : Fin k0_t3_loop.trips), k0_off5 b k = ![b.val, 0, k.val * 128] := by decide +kernel
theorem off6_eq : ∀ (i : Fin k0_t1_loop.trips) (b : Fin k0_t2_loop.trips) (k : Fin k0_t3_loop.trips), i.val < k.val → k0_off6 i b k = ![b.val, tile i.val k.val] := by decide +kernel
/-- The update is of the blocks below the solved one. -/
theorem cond1_iff : ∀ (i : Fin k0_t1_loop.trips) (k : Fin k0_t3_loop.trips), k0_cond1 i k = 1#1 ↔ i.val < k.val := by decide +kernel

end Cert.ReferenceIdeal.Solve
-- ==== Proof.Ref.Loops.lean ====
/- The reference's loops: from the rows' data in its inputs they leave every row solved. -/
module

public import proofs.«01_k».proof.Proof.Ref.Elem
public import proofs.«01_k».proof.Proof.Gen.ReferenceIdeal.Loops
public import proofs.«01_k».proof.Proof.Kern.Owned
public import proofs.«01_k».proof.Proof.Math.Rows
public import proofs.«01_k».proof.Proof.Math.Windows

@[expose] public section

set_option maxRecDepth 16384

noncomputable section

namespace Cert.ReferenceIdeal.Solve

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen Cert.Math
open VecWindow

local notation "𝕄" => MT nD τ sig Unit (Elt Ideal) ℕ (UR sig nD τ) ℕ

/-! ## The rows' data and how far they are solved -/

variable (R0 : Vec Ideal S2x2048x4096 .f32) (L : Vec Ideal S2x496x128x128 .fp8e4m3) (T : Vec Ideal S2x496 .f32) (I : Vec Ideal S2x32x128x128 .f32)

/-- Row `n` of batch `b`, of what the inputs hold. -/
def rowAt (b : Fin 2) (n : Fin 2048) : Row :=
  rowIn (fun b n p => R0 (ix3 b n p)) (fun b t r k => L (ix4 b t r k)) (fun b t => T (ix2 b t)) (fun b k r q => I (ix4 b k r q)) b n

/-- The column of place `r` of block `k`. -/
def col (k : Fin 32) (r : Fin 128) : Fin 4096 := ⟨k.val * 128 + r.val, by omega⟩

theorem eq_col (p : Fin 4096) : ∃ k r, p = col k r :=
  ⟨⟨p.val / 128, by omega⟩, ⟨p.val % 128, by omega⟩, Fin.ext (by show p.val = p.val / 128 * 128 + p.val % 128; omega)⟩

variable (A : Fin 2 → Fin 2048 → Row)

/-- What is left of the right-hand sides when block `i` is being solved: the batches before `b` have its contribution taken off, and
    batch `b` has it taken off before block `k`. -/
def Rest (i b k : ℕ) (X : Vec Ideal S2x2048x4096 .f32) : Prop :=
  ∀ (b' : Fin 2) (n : Fin 2048) (k' : Fin 32) (r : Fin 128), i ≤ k'.val →
    X (ix3 b' n (col k' r)) = (A b' n).left (if i < k'.val ∧ (b'.val < b ∨ b'.val = b ∧ k'.val < k) then i + 1 else i) k'.val r

/-- The results when block `i` is being solved: every block before `i`, and block `i` of the batches before `b`. -/
structure Upto (i b : ℕ) (X : Vec Ideal S2x2048x4096 .f32) (C : Vec Ideal S2x2048x4096 .fp8e4m3) (S : Vec Ideal S2x32x2048 .f32) : Prop where
  x : ∀ (b' : Fin 2) (n : Fin 2048) (k' : Fin 32) (r : Fin 128), k'.val < i ∨ k'.val = i ∧ b'.val < b → X (ix3 b' n (col k' r)) = (A b' n).x k'.val r
  c : ∀ (b' : Fin 2) (n : Fin 2048) (k' : Fin 32) (r : Fin 128), k'.val < i ∨ k'.val = i ∧ b'.val < b → C (ix3 b' n (col k' r)) = (A b' n).code k'.val r
  s : ∀ (b' : Fin 2) (n : Fin 2048) (k' : Fin 32), k'.val < i ∨ k'.val = i ∧ b'.val < b → S (ix3 b' k' n) = (A b' n).scale k'.val

variable {A}

theorem Rest.next_batch {i b N : ℕ} {X : Vec Ideal S2x2048x4096 .f32} (h : Rest A i b N X) (hN : N = 32) : Rest A i (b + 1) 0 X := by
  subst hN
  intro b' n k' r hk
  rw [h b' n k' r hk]
  have := k'.isLt
  congr 1
  by_cases h1 : i < k'.val ∧ (b'.val < b ∨ b'.val = b ∧ k'.val < 32)
  · rw [if_pos h1, if_pos (by omega)]
  · rw [if_neg h1, if_neg (by omega)]

theorem Rest.next_block {i : ℕ} {X : Vec Ideal S2x2048x4096 .f32} (h : Rest A i 2 0 X) : Rest A (i + 1) 0 0 X := by
  intro b' n k' r hk
  have := b'.isLt
  rw [h b' n k' r (by omega), if_pos (by omega), if_neg (by omega)]

theorem Upto.next_block {i : ℕ} {X C S} (h : Upto A i 2 X C S) : Upto A (i + 1) 0 X C S where
  x b' n k' r hk := h.x b' n k' r (by have := b'.isLt; omega)
  c b' n k' r hk := h.c b' n k' r (by have := b'.isLt; omega)
  s b' n k' hk := h.s b' n k' (by have := b'.isLt; omega)

theorem Rest.skip {i b k : ℕ} {X : Vec Ideal S2x2048x4096 .f32} (h : Rest A i b k X) (hk : ¬i < k) : Rest A i b (k + 1) X := by
  intro b' n k' r hk'
  rw [h b' n k' r hk']
  congr 1
  by_cases h1 : i < k'.val ∧ (b'.val < b ∨ b'.val = b ∧ k'.val < k)
  · rw [if_pos h1, if_pos (by omega)]
  · rw [if_neg h1, if_neg (by omega)]

/-! ## Windows at offsets given by an equation -/

theorem win2 {α : Type} {n0 n1 : ℕ} (x : (⟨2, ![n0, n1]⟩ : Shape).Idx → α) (off : Fin 2 → ℕ) (o0 o1 : ℕ) (ho : off = ![o0, o1])
    (inb : ∀ a, off a + (⟨2, ![1, 1]⟩ : Shape).size a ≤ (⟨2, ![n0, n1]⟩ : Shape).size a) (y : (⟨2, ![1, 1]⟩ : Shape).Idx)
    (p0 : Fin n0) (p1 : Fin n1) (h0 : p0.val = o0) (h1 : p1.val = o1) :
    window x off (⟨2, ![1, 1]⟩ : Shape).size inb y = x (ix2 p0 p1) := by
  subst ho
  have y0 : (y 0).val < 1 := (y 0).isLt
  have y1 : (y 1).val < 1 := (y 1).isLt
  exact window_at x ![o0, o1] (⟨2, ![1, 1]⟩ : Shape).size inb y (ix2 p0 p1) fun
    | 0 => (by show p0.val = o0 + (y 0).val; omega : _)
    | 1 => (by show p1.val = o1 + (y 1).val; omega : _)
theorem win3 {α : Type} {n0 n1 n2 m0 m1 m2 : ℕ} (x : (⟨3, ![n0, n1, n2]⟩ : Shape).Idx → α) (off : Fin 3 → ℕ) (o0 o1 o2 : ℕ) (ho : off = ![o0, o1, o2])
    (inb : ∀ a, off a + (⟨3, ![m0, m1, m2]⟩ : Shape).size a ≤ (⟨3, ![n0, n1, n2]⟩ : Shape).size a)
    (p0 : Fin n0) (p1 : Fin n1) (p2 : Fin n2) (i0 : Fin m0) (i1 : Fin m1) (i2 : Fin m2) (h0 : p0.val = o0 + i0.val) (h1 : p1.val = o1 + i1.val) (h2 : p2.val = o2 + i2.val) :
    window x off (⟨3, ![m0, m1, m2]⟩ : Shape).size inb (ix3 i0 i1 i2) = x (ix3 p0 p1 p2) := by
  subst ho; exact window3 x o0 o1 o2 inb p0 p1 p2 i0 i1 i2 h0 h1 h2
theorem win4 {α : Type} {n0 n1 n2 n3 m0 m1 m2 m3 : ℕ} (x : (⟨4, ![n0, n1, n2, n3]⟩ : Shape).Idx → α) (off : Fin 4 → ℕ) (o0 o1 o2 o3 : ℕ) (ho : off = ![o0, o1, o2, o3])
    (inb : ∀ a, off a + (⟨4, ![m0, m1, m2, m3]⟩ : Shape).size a ≤ (⟨4, ![n0, n1, n2, n3]⟩ : Shape).size a)
    (p0 : Fin n0) (p1 : Fin n1) (p2 : Fin n2) (p3 : Fin n3) (i0 : Fin m0) (i1 : Fin m1) (i2 : Fin m2) (i3 : Fin m3)
    (h0 : p0.val = o0 + i0.val) (h1 : p1.val = o1 + i1.val) (h2 : p2.val = o2 + i2.val) (h3 : p3.val = o3 + i3.val) :
    window x off (⟨4, ![m0, m1, m2, m3]⟩ : Shape).size inb (ix4 i0 i1 i2 i3) = x (ix4 p0 p1 p2 p3) := by
  subst ho; exact window4 x o0 o1 o2 o3 inb p0 p1 p2 p3 i0 i1 i2 i3 h0 h1 h2 h3
theorem put3e {α : Type} {n0 n1 n2 m0 m1 m2 : ℕ} (x : (⟨3, ![n0, n1, n2]⟩ : Shape).Idx → α) (off : Fin 3 → ℕ) (o0 o1 o2 : ℕ) (ho : off = ![o0, o1, o2])
    (w : (⟨3, ![m0, m1, m2]⟩ : Shape).Idx → α)
    (p0 : Fin n0) (p1 : Fin n1) (p2 : Fin n2) (i0 : Fin m0) (i1 : Fin m1) (i2 : Fin m2) (h0 : p0.val = o0 + i0.val) (h1 : p1.val = o1 + i1.val) (h2 : p2.val = o2 + i2.val) :
    put x off (⟨3, ![m0, m1, m2]⟩ : Shape).size w (ix3 p0 p1 p2) = w (ix3 i0 i1 i2) := by
  subst ho; exact put3 x o0 o1 o2 w p0 p1 p2 i0 i1 i2 h0 h1 h2
theorem put3off {α : Type} {n0 n1 n2 m0 m1 m2 : ℕ} (x : (⟨3, ![n0, n1, n2]⟩ : Shape).Idx → α) (off : Fin 3 → ℕ) (o0 o1 o2 : ℕ) (ho : off = ![o0, o1, o2])
    (w : (⟨3, ![m0, m1, m2]⟩ : Shape).Idx → α) (p0 : Fin n0) (p1 : Fin n1) (p2 : Fin n2)
    (h : (p0.val < o0 ∨ o0 + m0 ≤ p0.val) ∨ (p1.val < o1 ∨ o1 + m1 ≤ p1.val) ∨ (p2.val < o2 ∨ o2 + m2 ≤ p2.val)) :
    put x off (⟨3, ![m0, m1, m2]⟩ : Shape).size w (ix3 p0 p1 p2) = x (ix3 p0 p1 p2) := by
  subst ho
  rcases h with h | h | h
  · exact put_off x ![o0, o1, o2] (⟨3, ![m0, m1, m2]⟩ : Shape).size w (ix3 p0 p1 p2) 0 h
  · exact put_off x ![o0, o1, o2] (⟨3, ![m0, m1, m2]⟩ : Shape).size w (ix3 p0 p1 p2) 1 h
  · exact put_off x ![o0, o1, o2] (⟨3, ![m0, m1, m2]⟩ : Shape).size w (ix3 p0 p1 p2) 2 h

/-! ## One block solved -/

variable {R0 L T I}
variable (i : Fin k0_t1_loop.trips) (b : Fin k0_t2_loop.trips)

theorem lt1 : i.val < 32 := lt_of_lt_of_eq i.isLt trips1
theorem lt2 : b.val < 2 := lt_of_lt_of_eq b.isLt trips2
theorem lt3 (k : Fin k0_t3_loop.trips) : k.val < 32 := lt_of_lt_of_eq k.isLt trips3

/-- The trips as numbers of blocks and batches. -/
def bi : Fin 32 := ⟨i.val, lt1 i⟩
def bb : Fin 2 := ⟨b.val, lt2 b⟩

/-- Block `i` of batch `b` as the reference reads it, and the inverse of its diagonal block. -/
abbrev readRest (X : Vec Ideal S2x2048x4096 .f32) : Vec Ideal S1x2048x128 .f32 := window X (k0_off1 i b) S1x2048x128.size (k0_off1_inb i b)
abbrev readInv (I : Vec Ideal S2x32x128x128 .f32) : Vec Ideal S1x1x128x128 .f32 := window I (k0_off2 i b) S1x1x128x128.size (k0_off2_inb i b)

theorem solved {X : Vec Ideal S2x2048x4096 .f32} (h : Rest (rowAt R0 L T I) i.val b.val 0 X) (n : Fin 2048) (r : Fin 128) :
    k0_pay7 (readRest i b X) (readInv i b I) (ix2 n r) = (rowAt R0 L T I (bb b) n).x i.val r := by
  rw [pay7_apply]
  show _ = ∑ c : Fin 128, (rowAt R0 L T I (bb b) n).d i.val r c * (rowAt R0 L T I (bb b) n).left i.val i.val c
  refine Finset.sum_congr rfl fun c _ => ?_
  have h1 : readRest i b X (ix3 0 n c) = _ := (win3 X _ _ _ _ (off1_eq i b) _ (bb b) n (col (bi i) c) 0 n c (by simp [bb]) (by simp) (by simp [col, bi])).trans
    (h (bb b) n (bi i) c le_rfl)
  have h2 : readInv i b I (ix4 0 0 r c) = I (ix4 (bb b) (bi i) r c) :=
    win4 I _ _ _ _ _ (off2_eq i b) _ (bb b) (bi i) r c 0 0 r c (by simp [bb]) (by simp [bi]) (by simp) (by simp)
  rw [h1, h2, if_neg (by intro hh; exact absurd hh.1 (lt_irrefl _)), mul_comm]
  congr 1
  show _ = dite _ _ _
  rw [dif_pos (lt1 i)]
  rfl

theorem solved_fun {X : Vec Ideal S2x2048x4096 .f32} (h : Rest (rowAt R0 L T I) i.val b.val 0 X) (n : Fin 2048) :
    (fun r => k0_pay7 (readRest i b X) (readInv i b I) (ix2 n r)) = (rowAt R0 L T I (bb b) n).x i.val :=
  funext fun r => solved i b h n r
theorem solved_code {X : Vec Ideal S2x2048x4096 .f32} (h : Rest (rowAt R0 L T I) i.val b.val 0 X) (n : Fin 2048) (r : Fin 128) :
    k0_pay9 (readRest i b X) (readInv i b I) (ix2 n r) = (rowAt R0 L T I (bb b) n).code i.val r := by
  rw [pay9_apply, solved_fun i b h]; rfl
theorem solved_scale {X : Vec Ideal S2x2048x4096 .f32} (h : Rest (rowAt R0 L T I) i.val b.val 0 X) (n : Fin 2048) :
    k0_pay8 (readRest i b X) (readInv i b I) (ix2 n 0) = (rowAt R0 L T I (bb b) n).scale i.val := by
  rw [pay8_apply, solved_fun i b h]; rfl

/-- The results after the block is written. -/
theorem Upto.step {X : Vec Ideal S2x2048x4096 .f32} (h : Rest (rowAt R0 L T I) i.val b.val 0 X) {Xf C S}
    (hU : Upto (rowAt R0 L T I) i.val b.val Xf C S) :
    Upto (rowAt R0 L T I) i.val (b.val + 1)
      (put Xf (k0_off1 i b) S1x2048x128.size (k0_pay3 (k0_pay7 (readRest i b X) (readInv i b I))))
      (put C (k0_off1 i b) S1x2048x128.size (k0_pay4 (k0_pay9 (readRest i b X) (readInv i b I))))
      (put S (k0_off3 i b) S1x1x2048.size (k0_pay5 (k0_pay8 (readRest i b X) (readInv i b I)))) where
  x b' n k' r hk := by
    by_cases he : k'.val = i.val ∧ b'.val = b.val
    · obtain rfl : b' = bb b := Fin.ext he.2
      refine Eq.trans (put3e _ _ _ _ _ (off1_eq i b) _ (bb b) n (col k' r) 0 n r (by simp [bb]) (by simp) (by simp [col, he.1])) ?_
      rw [pay3_apply, solved i b h, he.1]
    · refine Eq.trans (put3off _ _ _ _ _ (off1_eq i b) _ b' n (col k' r) ?_) (hU.x b' n k' r (by omega))
      have : (col k' r).val = k'.val * 128 + r.val := rfl
      omega
  c b' n k' r hk := by
    by_cases he : k'.val = i.val ∧ b'.val = b.val
    · obtain rfl : b' = bb b := Fin.ext he.2
      refine Eq.trans (put3e _ _ _ _ _ (off1_eq i b) _ (bb b) n (col k' r) 0 n r (by simp [bb]) (by simp) (by simp [col, he.1])) ?_
      rw [pay4_apply, solved_code i b h, he.1]
    · refine Eq.trans (put3off _ _ _ _ _ (off1_eq i b) _ b' n (col k' r) ?_) (hU.c b' n k' r (by omega))
      have : (col k' r).val = k'.val * 128 + r.val := rfl
      omega
  s b' n k' hk := by
    by_cases he : k'.val = i.val ∧ b'.val = b.val
    · obtain rfl : b' = bb b := Fin.ext he.2
      refine Eq.trans (put3e _ _ _ _ _ (off3_eq i b) _ (bb b) k' n 0 0 n (by simp [bb]) (by simp [he.1]) (by simp)) ?_
      rw [pay5_apply, solved_scale i b h, he.1]
    · refine Eq.trans (put3off _ _ _ _ _ (off3_eq i b) _ b' k' n ?_) (hU.s b' n k' (by omega))
      omega

/-- What is left after the contribution to block `k` is taken off. -/
theorem Rest.step (k : Fin k0_t3_loop.trips) (hc : k0_cond1 i k = 1#1) {q : FVec Ideal S2048x128 .f32} {s : FVec Ideal S2048x1 .f32}
    (hq : ∀ n r, q (ix2 n r) = (rowAt R0 L T I (bb b) n).code i.val r) (hs : ∀ n, s (ix2 n 0) = (rowAt R0 L T I (bb b) n).scale i.val)
    {X : Vec Ideal S2x2048x4096 .f32} (h : Rest (rowAt R0 L T I) i.val b.val k.val X) :
    Rest (rowAt R0 L T I) i.val b.val (k.val + 1)
      (put X (k0_off5 b k) S1x2048x128.size (k0_pay6 s q (window L (k0_off4 i b k) S1x1x128x128.size (k0_off4_inb i b k hc))
        (window X (k0_off5 b k) S1x2048x128.size (k0_off5_inb i b k hc))
        (window T (k0_off6 i b k) S1x1.size (k0_off6_inb i b k hc) (Shape.Idx.first (numel1_S1x1.symm ▸ Nat.one_pos))))) := by
  have hik := (cond1_iff i k).mp hc
  have hk32 : k.val < 32 := lt3 k
  have ht : tile i.val k.val < 496 := tile_lt hk32 hik
  intro b' n k' r hk'
  by_cases he : k'.val = k.val ∧ b'.val = b.val
  · obtain rfl : b' = bb b := Fin.ext he.2
    obtain ⟨hkk, -⟩ := he
    refine Eq.trans (put3e _ _ _ _ _ (off5_eq b k) _ (bb b) n (col k' r) 0 n r (by simp [bb]) (by simp) (by simp [col, hkk])) ?_
    rw [pay6_apply]
    have e1 := (win3 X _ _ _ _ (off5_eq b k) (k0_off5_inb i b k hc) (bb b) n (col k' r) 0 n r (by simp [bb]) (by simp) (by simp [col, hkk])).trans (h (bb b) n k' r hk')
    have e2 : ∀ c, window L (k0_off4 i b k) S1x1x128x128.size (k0_off4_inb i b k hc) (ix4 0 0 r c) = (rowAt R0 L T I (bb b) n).l i.val k.val r c := fun c => by
      refine Eq.trans (win4 L _ _ _ _ _ (off4_eq i b k hik) _ (bb b) ⟨tile i.val k.val, ht⟩ r c 0 0 r c (by simp [bb]) (by simp) (by simp) (by simp)) ?_
      show _ = dite _ _ _
      rw [dif_pos ht]
    have e3 : window T (k0_off6 i b k) S1x1.size (k0_off6_inb i b k hc) (Shape.Idx.first (numel1_S1x1.symm ▸ Nat.one_pos)) = (rowAt R0 L T I (bb b) n).ts i.val k.val := by
      refine Eq.trans (win2 T _ _ _ (off6_eq i b k hik) _ _ (bb b) ⟨tile i.val k.val, ht⟩ rfl rfl) ?_
      show _ = dite _ _ _
      rw [dif_pos ht]
    rw [if_neg (by simp [bb]; omega)] at e1
    rw [if_pos (by simp [bb]; omega), hkk, ← Row.left_succ', hs]
    have e4 : (∑ c : Fin 128, q (ix2 n c) * window L (k0_off4 i b k) S1x1x128x128.size (k0_off4_inb i b k hc) (ix4 0 0 r c))
        = ∑ c : Fin 128, (rowAt R0 L T I (bb b) n).code i.val c * (rowAt R0 L T I (bb b) n).l i.val k.val r c :=
      Finset.sum_congr rfl fun c _ => by rw [hq, e2]
    rw [e4, e3, ← hkk, ← e1]
  · refine Eq.trans (put3off _ _ _ _ _ (off5_eq b k) _ b' n (col k' r) ?_) ?_
    · have : (col k' r).val = k'.val * 128 + r.val := rfl
      omega
    · rw [h b' n k' r hk']
      congr 1
      by_cases h1 : i.val < k'.val ∧ (b'.val < b.val ∨ b'.val = b.val ∧ k'.val < k.val)
      · rw [if_pos h1, if_pos (by omega)]
      · rw [if_neg h1, if_neg (by omega)]

end Cert.ReferenceIdeal.Solve
-- ==== Proof.Ref.Run.lean ====
/- The reference's run: its loops, by what they have solved so far. -/
module

public import proofs.«01_k».proof.Proof.Ref.Loops

@[expose] public section

set_option maxRecDepth 16384

noncomputable section

namespace Cert.ReferenceIdeal.Solve

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen Cert.Math
open VecWindow

local notation "𝕄" => MT nD τ sig Unit (Elt Ideal) ℕ (UR sig nD τ) ℕ

variable (c : Dev nD) (E : Set ℕ)
  (arg0 : Memref sig .tc .vmem S2x2048x4096 .f32) (harg0 : arg0.IsWhole) (arg1 : Memref sig .tc .vmem S2x496x128x128 .fp8e4m3) (harg1 : arg1.IsWhole)
  (arg2 : Memref sig .tc .smem S2x496 .f32) (harg2 : arg2.IsWhole) (arg3 : Memref sig .tc .vmem S2x32x128x128 .f32) (harg3 : arg3.IsWhole)
  (arg4 : Memref sig .tc .vmem S2x2048x4096 .f32) (harg4 : arg4.IsWhole) (arg5 : Memref sig .tc .vmem S2x2048x4096 .fp8e4m3) (harg5 : arg5.IsWhole)
  (arg6 : Memref sig .tc .vmem S2x32x2048 .f32) (harg6 : arg6.IsWhole) (arg7 : Memref sig .tc .vmem S2x2048x4096 .f32) (harg7 : arg7.IsWhole)
  (R0 : Vec Ideal S2x2048x4096 .f32) (L : Vec Ideal S2x496x128x128 .fp8e4m3) (T : Vec Ideal S2x496 .f32) (I : Vec Ideal S2x32x128x128 .f32)

/-- A program that has ended. -/
theorem done {Q : PUnit → sProp 𝕄} : Q ⟨⟩ ⊢ wp frame (wpE (defs₀ (F := Ideal)) Variants.none (c : Thread nD τ) none) E (.ret ⟨⟩) Q := by
  rw [wp_ret]
  iintro H
  imodintro
  iexact H

/-- Before trip `k` of the update of batch `b` by block `i`. -/
def inner (i b k : ℕ) : sProp 𝕄 :=
  iprop(owns (c : Thread nD τ) arg1 fullShare L ∗ owns (c : Thread nD τ) arg2 fullShare T
    ∗ (∃ X, owns (c : Thread nD τ) arg7 fullShare X ∗ ⌜Rest (rowAt R0 L T I) i b k X⌝))

/-- Before batch `b` of block `i`. -/
def middle (i b : ℕ) : sProp 𝕄 :=
  iprop(owns (c : Thread nD τ) arg1 fullShare L ∗ owns (c : Thread nD τ) arg2 fullShare T ∗ owns (c : Thread nD τ) arg3 fullShare I
    ∗ (∃ Xf C S X, owns (c : Thread nD τ) arg4 fullShare Xf ∗ owns (c : Thread nD τ) arg5 fullShare C ∗ owns (c : Thread nD τ) arg6 fullShare S
      ∗ owns (c : Thread nD τ) arg7 fullShare X ∗ ⌜Upto (rowAt R0 L T I) i b Xf C S ∧ Rest (rowAt R0 L T I) i b 0 X⌝))

/-- One trip of the update. -/
theorem wp_update (i : Fin k0_t1_loop.trips) (b : Fin k0_t2_loop.trips) {s : FVec Ideal S2048x1 .f32} {q : FVec Ideal S2048x128 .f32}
    (hq : ∀ n r, q (ix2 n r) = (rowAt R0 L T I (bb b) n).code i.val r) (hs : ∀ n, s (ix2 n 0) = (rowAt R0 L T I (bb b) n).scale i.val)
    (k : Fin k0_t3_loop.trips) (acc : Unit) :
    inner c arg1 arg2 arg7 R0 L T I i.val b.val k.val
      ⊢ wp frame (wpE (defs₀ (F := Ideal)) Variants.none (c : Thread nD τ) none) E
          (k0_t3_body arg0 harg0 arg1 harg1 arg2 harg2 arg3 harg3 arg4 harg4 arg5 harg5 arg6 harg6 arg7 harg7 i b s q k acc)
          (fun _ => inner c arg1 arg2 arg7 R0 L T I i.val b.val (k.val + 1)) := by
  unfold k0_t3_body inner
  by_cases hc : k0_cond1 i k = 1#1
  · simp only [dif_pos hc]
    iintro ⟨H1, H2, %X, H7, %hX⟩
    iapply (Owned.load Variants.none (c : Thread nD τ) none E) $$ H1
    iintro H1
    iapply (Owned.load Variants.none (c : Thread nD τ) none E) $$ H7
    iintro H7
    unfold smemLoad
    iapply (Owned.load Variants.none (c : Thread nD τ) none E) $$ H2
    iintro H2
    iapply (Owned.load Variants.none (c : Thread nD τ) none E) $$ H7
    iintro H7
    iapply (Owned.store Variants.none (c : Thread nD τ) none E) $$ H7
    iintro H7
    iapply (done c E)
    isplitl [H1]; · iexact H1
    isplitl [H2]; · iexact H2
    iexists _
    isplitl [H7]; · iexact H7
    ipureintro
    exact hX.step i b k hc hq hs
  · simp only [dif_neg hc]
    iintro ⟨H1, H2, %X, H7, %hX⟩
    iapply (done c E)
    isplitl [H1]; · iexact H1
    isplitl [H2]; · iexact H2
    iexists X
    isplitl [H7]; · iexact H7
    ipureintro
    exact hX.skip fun h => hc ((cond1_iff i k).mpr h)

/-- One batch of one block. -/
theorem wp_batch (i : Fin k0_t1_loop.trips) (w0 w1 : BitVec 32) (b : Fin k0_t2_loop.trips) (acc : Unit) :
    middle c arg1 arg2 arg3 arg4 arg5 arg6 arg7 R0 L T I i.val b.val
      ⊢ wp frame (wpE (defs₀ (F := Ideal)) Variants.none (c : Thread nD τ) none) E
          (k0_t2_body arg0 harg0 arg1 harg1 arg2 harg2 arg3 harg3 arg4 harg4 arg5 harg5 arg6 harg6 arg7 harg7 i w0 w1 b acc)
          (fun _ => middle c arg1 arg2 arg3 arg4 arg5 arg6 arg7 R0 L T I i.val (b.val + 1)) := by
  unfold k0_t2_body middle
  rw [k0_part1_eq_skeleton]
  unfold k0_part1_skel
  iintro ⟨H1, H2, H3, %Xf, %C, %S, %X, H4, H5, H6, H7, %hX⟩
  obtain ⟨hU, hX⟩ := hX
  iapply (Owned.load Variants.none (c : Thread nD τ) none E) $$ H7
  iintro H7
  iapply (Owned.load Variants.none (c : Thread nD τ) none E) $$ H3
  iintro H3
  iapply (Owned.load Variants.none (c : Thread nD τ) none E) $$ H4
  iintro H4
  iapply (Owned.store Variants.none (c : Thread nD τ) none E) $$ H4
  iintro H4
  iapply (Owned.load Variants.none (c : Thread nD τ) none E) $$ H5
  iintro H5
  iapply (Owned.store Variants.none (c : Thread nD τ) none E) $$ H5
  iintro H5
  iapply (Owned.load Variants.none (c : Thread nD τ) none E) $$ H6
  iintro H6
  iapply (Owned.store Variants.none (c : Thread nD τ) none E) $$ H6
  iintro H6
  iapply (Scf.wp_for_bind frame (wpE (defs₀ (F := Ideal)) Variants.none (c : Thread nD τ) none) E _ _ _ _ _ _
    (fun k _ => inner c arg1 arg2 arg7 R0 L T I i.val b.val k)
    (wp_update c E arg0 harg0 arg1 harg1 arg2 harg2 arg3 harg3 arg4 harg4 arg5 harg5 arg6 harg6 arg7 harg7 R0 L T I i b
      (solved_code i b hX) (solved_scale i b hX))) $$ [H1 H2 H7]
  · unfold inner
    isplitl [H1]; · iexact H1
    isplitl [H2]; · iexact H2
    iexists X
    isplitl [H7]; · iexact H7
    ipureintro
    exact hX
  iintro %_ H
  unfold inner
  icases H with ⟨H1, H2, %X', H7, %hX'⟩
  iapply (done c E)
  isplitl [H1]; · iexact H1
  isplitl [H2]; · iexact H2
  isplitl [H3]; · iexact H3
  iexists _
  iexists _
  iexists _
  iexists X'
  isplitl [H4]; · iexact H4
  isplitl [H5]; · iexact H5
  isplitl [H6]; · iexact H6
  isplitl [H7]; · iexact H7
  ipureintro
  exact ⟨Upto.step i b hX hU, hX'.next_batch trips3⟩

/-- One block. -/
theorem wp_block (i : Fin k0_t1_loop.trips) (acc : Unit) :
    middle c arg1 arg2 arg3 arg4 arg5 arg6 arg7 R0 L T I i.val 0
      ⊢ wp frame (wpE (defs₀ (F := Ideal)) Variants.none (c : Thread nD τ) none) E
          (k0_t1_body arg0 harg0 arg1 harg1 arg2 harg2 arg3 harg3 arg4 harg4 arg5 harg5 arg6 harg6 arg7 harg7 i acc)
          (fun _ => middle c arg1 arg2 arg3 arg4 arg5 arg6 arg7 R0 L T I (i.val + 1) 0) := by
  unfold k0_t1_body
  iintro H
  iapply (Scf.wp_for_bind frame (wpE (defs₀ (F := Ideal)) Variants.none (c : Thread nD τ) none) E _ _ _ _ _ _
    (fun b _ => middle c arg1 arg2 arg3 arg4 arg5 arg6 arg7 R0 L T I i.val b)
    (wp_batch c E arg0 harg0 arg1 harg1 arg2 harg2 arg3 harg3 arg4 harg4 arg5 harg5 arg6 harg6 arg7 harg7 R0 L T I i _ _)) $$ H
  iintro %_ H
  unfold middle
  icases H with ⟨H1, H2, H3, %Xf, %C, %S, %X, H4, H5, H6, H7, %hX⟩
  iapply (done c E)
  isplitl [H1]; · iexact H1
  isplitl [H2]; · iexact H2
  isplitl [H3]; · iexact H3
  iexists Xf
  iexists C
  iexists S
  iexists X
  isplitl [H4]; · iexact H4
  isplitl [H5]; · iexact H5
  isplitl [H6]; · iexact H6
  isplitl [H7]; · iexact H7
  ipureintro
  have hX : Upto (rowAt R0 L T I) i.val 2 Xf C S ∧ Rest (rowAt R0 L T I) i.val 2 0 X := trips2 ▸ hX
  exact ⟨hX.1.next_block, hX.2.next_block⟩

/-! ## The whole body -/

/-- The solution, its codes and its scales, of the rows. -/
def allX (A : Fin 2 → Fin 2048 → Row) : Vec Ideal S2x2048x4096 .f32 := fun z => (A (z 0) (z 1)).xAt (z 2)
def allC (A : Fin 2 → Fin 2048 → Row) : Vec Ideal S2x2048x4096 .fp8e4m3 := fun z => (A (z 0) (z 1)).codeCol (z 2)
def allS (A : Fin 2 → Fin 2048 → Row) : Vec Ideal S2x32x2048 .f32 := fun z => (A (z 0) (z 2)).scale (z 1).val

theorem Upto.eq {A : Fin 2 → Fin 2048 → Row} {Xf C S} (h : Upto A 32 0 Xf C S) : Xf = allX A ∧ C = allC A ∧ S = allS A := by
  refine ⟨funext fun z => ?_, funext fun z => ?_, funext fun z => ?_⟩
  · have hz : z = ix3 (z 0) (z 1) (z 2) := funext fun | 0 => rfl | 1 => rfl | 2 => rfl
    rw [hz]
    generalize (z 0 : Fin 2) = b
    generalize (z 1 : Fin 2048) = n
    generalize (z 2 : Fin 4096) = p
    obtain ⟨k, r, rfl⟩ := eq_col p
    exact (h.x b n k r (Or.inl k.isLt)).trans (Row.xAt_block (A b n) k r _).symm
  · have hz : z = ix3 (z 0) (z 1) (z 2) := funext fun | 0 => rfl | 1 => rfl | 2 => rfl
    rw [hz]
    generalize (z 0 : Fin 2) = b
    generalize (z 1 : Fin 2048) = n
    generalize (z 2 : Fin 4096) = p
    obtain ⟨k, r, rfl⟩ := eq_col p
    exact (h.c b n k r (Or.inl k.isLt)).trans (Row.codeCol_block (A b n) k r _).symm
  · have hz : z = ix3 (z 0) (z 1) (z 2) := funext fun | 0 => rfl | 1 => rfl | 2 => rfl
    rw [hz]
    generalize (z 0 : Fin 2) = b
    generalize (z 1 : Fin 32) = k
    generalize (z 2 : Fin 2048) = n
    exact h.s b n k (Or.inl k.isLt)

/-- Before any block, nothing is solved and nothing is taken off. -/
theorem rest_start : Rest (rowAt R0 L T I) 0 0 0 R0 := by
  intro b n k r _
  rw [if_neg (by omega)]
  show _ = dite _ _ _
  rw [dif_pos (by have := k.isLt; have := r.isLt; omega)]
  rfl

/-- What the body leaves. -/
def left (A : Fin 2 → Fin 2048 → Row) : sProp 𝕄 :=
  iprop(owns (c : Thread nD τ) arg0 fullShare R0 ∗ owns (c : Thread nD τ) arg1 fullShare L ∗ owns (c : Thread nD τ) arg2 fullShare T ∗ owns (c : Thread nD τ) arg3 fullShare I
    ∗ owns (c : Thread nD τ) arg4 fullShare (allX A) ∗ owns (c : Thread nD τ) arg5 fullShare (allC A) ∗ owns (c : Thread nD τ) arg6 fullShare (allS A)
    ∗ (∃ d, owns (c : Thread nD τ) arg7 fullShare d))

/-- The body leaves every row solved. -/
theorem wp_body (Q : PUnit → sProp 𝕄) :
    iprop(owns (c : Thread nD τ) arg0 fullShare R0 ∗ owns (c : Thread nD τ) arg1 fullShare L ∗ owns (c : Thread nD τ) arg2 fullShare T ∗ owns (c : Thread nD τ) arg3 fullShare I
      ∗ (∃ d, owns (c : Thread nD τ) arg4 fullShare d) ∗ (∃ d, owns (c : Thread nD τ) arg5 fullShare d) ∗ (∃ d, owns (c : Thread nD τ) arg6 fullShare d)
      ∗ (∃ d, owns (c : Thread nD τ) arg7 fullShare d)
      ∗ (left c arg0 arg1 arg2 arg3 arg4 arg5 arg6 arg7 R0 L T I (rowAt R0 L T I) -∗ Q ⟨⟩))
      ⊢ wp frame (wpE (defs₀ (F := Ideal)) Variants.none (c : Thread nD τ) none) E
          (cc0__reference arg0 harg0 arg1 harg1 arg2 harg2 arg3 harg3 arg4 harg4 arg5 harg5 arg6 harg6 arg7 harg7) Q := by
  rw [cc0__reference_eq_skeleton]
  unfold cc0__reference_skel
  iintro ⟨H0, H1, H2, H3, ⟨%d4, H4⟩, ⟨%d5, H5⟩, ⟨%d6, H6⟩, ⟨%d7, H7⟩, Hk⟩
  iapply (Owned.load Variants.none (c : Thread nD τ) none E) $$ H0
  iintro H0
  iapply (Owned.load Variants.none (c : Thread nD τ) none E) $$ H7
  iintro H7
  iapply (Owned.store Variants.none (c : Thread nD τ) none E) $$ H7
  iintro H7
  have hp : put d7 ![0, 0, 0] S2x2048x4096.size (k0_pay1 (window R0 ![0, 0, 0] S2x2048x4096.size inb_S2x2048x4096_S2x2048x4096_0_0_0)) = R0 := by
    rw [pay1_eq]
    funext z
    have hz : z = ix3 (z 0) (z 1) (z 2) := funext fun | 0 => rfl | 1 => rfl | 2 => rfl
    rw [hz]
    refine Eq.trans (put3 _ _ _ _ _ (z 0) (z 1) (z 2) (z 0) (z 1) (z 2) (Nat.zero_add _).symm (Nat.zero_add _).symm (Nat.zero_add _).symm) ?_
    exact window3 R0 _ _ _ _ _ _ _ _ _ _ (Nat.zero_add _).symm (Nat.zero_add _).symm (Nat.zero_add _).symm
  iapply (Scf.wp_for_bind frame (wpE (defs₀ (F := Ideal)) Variants.none (c : Thread nD τ) none) E _ _ _ _ _ _
    (fun i _ => middle c arg1 arg2 arg3 arg4 arg5 arg6 arg7 R0 L T I i 0)
    (wp_block c E arg0 harg0 arg1 harg1 arg2 harg2 arg3 harg3 arg4 harg4 arg5 harg5 arg6 harg6 arg7 harg7 R0 L T I)) $$ [H1 H2 H3 H4 H5 H6 H7]
  · unfold middle
    isplitl [H1]; · iexact H1
    isplitl [H2]; · iexact H2
    isplitl [H3]; · iexact H3
    iexists d4
    iexists d5
    iexists d6
    iexists _
    isplitl [H4]; · iexact H4
    isplitl [H5]; · iexact H5
    isplitl [H6]; · iexact H6
    isplitl [H7]; · iexact H7
    ipureintro
    refine ⟨⟨fun _ _ _ _ h => absurd h (by omega), fun _ _ _ _ h => absurd h (by omega), fun _ _ _ h => absurd h (by omega)⟩, ?_⟩
    rw [hp]
    exact rest_start R0 L T I
  iintro %_ H
  unfold middle
  icases H with ⟨H1, H2, H3, %Xf, %C, %S, %X, H4, H5, H6, H7, %hX⟩
  have hX : Upto (rowAt R0 L T I) 32 0 Xf C S ∧ Rest (rowAt R0 L T I) 32 0 0 X := trips1 ▸ hX
  obtain ⟨rfl, rfl, rfl⟩ := hX.1.eq
  iapply (done c E)
  iapply Hk
  unfold left
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  iexact H7

end Cert.ReferenceIdeal.Solve
-- ==== Proof.Ref.Values.lean ====
/- The reference's run: every row of its results is the row solved, and its arguments are unchanged. -/
module

public import proofs.«01_k».proof.Proof.Gen.ReferenceIdeal.Frame
public import proofs.«01_k».proof.Proof.Ref.Run
public import Idealize.ShloMosaic.Lib.Pipeline.ValueKit

@[expose] public section

set_option maxRecDepth 16384

noncomputable section

namespace Cert.ReferenceIdeal.Values

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen Cert.ReferenceIdeal.Solve Cert.Math

local notation "𝕄" => MT nD τ sig Unit (Elt Ideal) ℕ (UR sig nD τ) ℕ

variable (m : (ℓ : Loc nD τ sig) → Buf (Elt Ideal) ℓ) (ρ : Dev nD → PrngReg)

/-- Row `n` of batch `b` of the arrays that the reference reads. -/
def row (c : Dev nD) : Fin 2 → Fin 2048 → Row :=
  rowIn (fun b n p => V m c main_arg0 (ix3 b n p)) (fun b t r k => V m c main_v0 (ix4 b t r k)) (fun b t => V m c main_arg2 (ix2 b t))
    (fun b k r q => V m c main_arg3 (ix4 b k r q))

/-! ## The blocks are the arrays -/

theorem idx : ∀ t : Fin grid0.N, win0_0.index t = ![0, 0, 0] ∧ win0_1.index t = ![0, 0, 0, 0] ∧ win0_2.index t = ![0, 0]
    ∧ win0_3.index t = ![0, 0, 0, 0] ∧ win0_4.index t = ![0, 0, 0] ∧ win0_5.index t = ![0, 0, 0] ∧ win0_6.index t = ![0, 0, 0] := by decide +kernel

variable (c : Dev nD)

theorem iblk_0 (t : Fin cfg0.N) (b : Fin 2) (n : Fin 2048) (p : Fin 4096) : iblk m c 0 t (ix3 b n p) = V m c main_arg0 (ix3 b n p) := by
  have e := (idx t).1
  blk_ext [iblk, e]
theorem iblk_1 (t : Fin cfg0.N) (b : Fin 2) (s : Fin 496) (r k : Fin 128) : iblk m c 1 t (ix4 b s r k) = V m c main_v0 (ix4 b s r k) := by
  have e := (idx t).2.1
  blk_ext [iblk, e]
theorem iblk_2 (t : Fin cfg0.N) (b : Fin 2) (s : Fin 496) : iblk m c 2 t (ix2 b s) = V m c main_arg2 (ix2 b s) := by
  have e := (idx t).2.2.1
  blk_ext [iblk, e]
theorem iblk_3 (t : Fin cfg0.N) (b : Fin 2) (s : Fin 32) (r k : Fin 128) : iblk m c 3 t (ix4 b s r k) = V m c main_arg3 (ix4 b s r k) := by
  have e := (idx t).2.2.2.1
  blk_ext [iblk, e]

theorem rows_eq (t : Fin cfg0.N) : rowAt (iblk m c 0 t) (iblk m c 1 t) (iblk m c 2 t) (iblk m c 3 t) = row m c := by
  funext b n
  unfold rowAt row
  congr 1
  · funext b n p; exact iblk_0 m c t b n p
  · funext b s r k; exact iblk_1 m c t b s r k
  · funext b s; exact iblk_2 m c t b s
  · funext b k r q; exact iblk_3 m c t b k r q

/-! ## The pipeline's proof data -/

/-- The proof data: each input's buffer at its block, each output's at the rows' solutions. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => allX (row m c)
    | ⟨5, _⟩ => allC (row m c)
    | ⟨6, _⟩ => allS (row m c)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = allX (row m c) := by dsimp only [dats]
theorem after_5 (t : Fin cfg0.N) : (dats m 0 c).after 5 t = allC (row m c) := by dsimp only [dats]
theorem after_6 (t : Fin cfg0.N) : (dats m 0 c).after 6 t = allS (row m c) := by dsimp only [dats]

theorem before_0 (t : Fin cfg0.N) (d) : (dats m 0 c).before 0 t d = iblk m c 0 t := before0_0_of m (dats m 0 c) (A_eq m c 0) (after_0 m c) t d
theorem before_1 (t : Fin cfg0.N) (d) : (dats m 0 c).before 1 t d = iblk m c 1 t := before0_1_of m (dats m 0 c) (A_eq m c 1) (after_1 m c) t d
theorem before_2 (t : Fin cfg0.N) (d) : (dats m 0 c).before 2 t d = iblk m c 2 t := before0_2_of m (dats m 0 c) (A_eq m c 2) (after_2 m c) t d
theorem before_3 (t : Fin cfg0.N) (d) : (dats m 0 c).before 3 t d = iblk m c 3 t := before0_3_of m (dats m 0 c) (A_eq m c 3) (after_3 m c) t d

/-! ## The body obligation -/

theorem PhiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- What the body is called with at point `t`. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body. -/
theorem sound_body (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, after_5, after_6]
  rw [show (dats m 0 c).Φ t.succ = Pipeline.ΦA spec0 c from rfl, show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (wp_body c Set.univ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  rw [rows_eq]
  unfold left
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
/-- The run: every array of the pipeline ends as the proof data says, every other buffer as the swap of axes after it leaves it, and no semaphore is left raised. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hin := fun _ => .rfl) (hout := fun _ => .rfl)

theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ (h : _ ∧ _) => h.1) (run_main_quiescent m ρ)

/-- The frame: the arguments are unchanged and no semaphore is left raised. -/
theorem quiet : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ (h : _ ∧ _) => h.2) (run_main_quiescent m ρ))

/-! ## The results -/

/-- The solution. -/
def X : Buf (Elt Ideal) ((c.tc : Thread nD τ).loc main_v1_0) := fun z : S2x2048x4096.Idx => (row m c (z 0) (z 1)).xAt (z 2)
/-- Its codes. -/
def C : Buf (Elt Ideal) ((c.tc : Thread nD τ).loc main_v1_1) := fun z : S2x2048x4096.Idx => (row m c (z 0) (z 1)).codeCol (z 2)
/-- Its scales. -/
def S : Buf (Elt Ideal) ((c.tc : Thread nD τ).loc main_v1_2) := fun z : S2x32x2048.Idx => (row m c (z 0) (z 2)).scale (z 1).val

theorem arr_4 : (dats m 0 c).arrAt 4 cfg0.N = X m c := by
  refine (dats m 0 c).arrAt_eq_of_covers 4 _ (by decide +kernel) fun t hf y => ?_
  blk_simp
  rw [after_4]
  have e := (idx t).2.2.2.2.1
  have h0 : ((win0_4.blk t).view.emb y) 0 = y 0 := Fin.ext (by blk_simp [e])
  have h1 : ((win0_4.blk t).view.emb y) 1 = y 1 := Fin.ext (by blk_simp [e])
  have h2 : ((win0_4.blk t).view.emb y) 2 = y 2 := Fin.ext (by blk_simp [e])
  show (row m c (y 0) (y 1)).xAt (y 2) = (row m c (((win0_4.blk t).view.emb y) 0) (((win0_4.blk t).view.emb y) 1)).xAt (((win0_4.blk t).view.emb y) 2)
  rw [h0, h1, h2]
theorem arr_5 : (dats m 0 c).arrAt 5 cfg0.N = C m c := by
  refine (dats m 0 c).arrAt_eq_of_covers 5 _ (by decide +kernel) fun t hf y => ?_
  blk_simp
  rw [after_5]
  have e := (idx t).2.2.2.2.2.1
  have h0 : ((win0_5.blk t).view.emb y) 0 = y 0 := Fin.ext (by blk_simp [e])
  have h1 : ((win0_5.blk t).view.emb y) 1 = y 1 := Fin.ext (by blk_simp [e])
  have h2 : ((win0_5.blk t).view.emb y) 2 = y 2 := Fin.ext (by blk_simp [e])
  show (row m c (y 0) (y 1)).codeCol (y 2) = (row m c (((win0_5.blk t).view.emb y) 0) (((win0_5.blk t).view.emb y) 1)).codeCol (((win0_5.blk t).view.emb y) 2)
  rw [h0, h1, h2]
theorem arr_6 : (dats m 0 c).arrAt 6 cfg0.N = S m c := by
  refine (dats m 0 c).arrAt_eq_of_covers 6 _ (by decide +kernel) fun t hf y => ?_
  blk_simp
  rw [after_6]
  have e := (idx t).2.2.2.2.2.2
  have h0 : ((win0_6.blk t).view.emb y) 0 = y 0 := Fin.ext (by blk_simp [e])
  have h1 : ((win0_6.blk t).view.emb y) 1 = y 1 := Fin.ext (by blk_simp [e])
  have h2 : ((win0_6.blk t).view.emb y) 2 = y 2 := Fin.ext (by blk_simp [e])
  show (row m c (y 0) (y 2)).scale (y 1).val = (row m c (((win0_6.blk t).view.emb y) 0) (((win0_6.blk t).view.emb y) 2)).scale (((win0_6.blk t).view.emb y) 1).val
  rw [h0, h1, h2]

/-- The scales, with a row's scales beside each other. -/
def T : Buf (Elt Ideal) ((c.tc : Thread nD τ).loc main_v2) := fun z : S2x2048x32.Idx => (row m c (z 0) (z 1)).scale (z 2).val

/-- The swap of axes after the pipeline gives them. -/
theorem tail_scales : Pipeline.afterTail₀ cfgs (dats m) 0 (V0 m) [hostOps1] c main_v2 = T m c := by
  unfold Pipeline.afterTail₀
  show StableHlo.after hostOps1 _ (Proc.devRef .tc main_v2) = _
  simp only [StableHlo.after_cons, StableHlo.after_nil]
  rw [StableHlo.unary_result]
  erw [Pipeline.withArrays_arr spec0 launch0.win.arr_inj c (V0 m c) (fun w => (dats m 0 c).arrAt w cfg0.N) 6]
  rw [arr_6]
  rfl

/-- The run, read: the three results, and the arguments unchanged. -/
theorem run : θ_run defs (onTc (τ := τ) (main (F := Ideal))) ⟨m, fun _ => 0, ρ⟩ fun r => ∀ c : Dev nD,
      r.2.mem ((c.tc : Thread nD τ).loc main_v1_0) = X m c
      ∧ r.2.mem ((c.tc : Thread nD τ).loc main_v1_1) = C m c
      ∧ r.2.mem ((c.tc : Thread nD τ).loc main_v2) = T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 4).trans (arr_4 m c), ((h.1 c).1 5).trans (arr_5 m c), ((h.1 c).2 main_v2 (Pipeline.mem_restRefs_of main_v2 (by decide) (by decide))).trans (tail_scales m c), h.2 c⟩)
    (θ_run_and (run_main m ρ) (frame_of m ρ (dats m) (A_eq m) (run_main m ρ)))

end Cert.ReferenceIdeal.Values
-- ==== Proof.Pre.lean ====
/- What the precondition says: every input is a real number. -/
module

public import proofs.«01_k».proof.Pre_finite
public import Idealize.ShloMosaic.Lib.ReduceAll
public import Idealize.ShloMosaic.Lib.Pointwise
public import proofs.«01_k».proof.Proof.Math.Finite

@[expose] public section

set_option maxRecDepth 16384

noncomputable section

namespace Cert.Pre_finite

open Idealize.ShloMosaic Idealize.SL.Sem Cert.Math

theorem and_one : ∀ a b : BitVec 1, IntOp.andi a b = 1#1 → a = 1#1 ∧ b = 1#1 := by decide

theorem ofBits_top : Ideal.ofBits .f32 2139095040#32 = ⊤ := by
  show Ideal.ieee 8 23 2139095040#32 = ⊤
  unfold Ideal.ieee
  simp

/-- A number whose absolute value is less than infinity is a real number. -/
theorem real_of_lt {x : EReal} (h : max x (-x) < ⊤) : IsReal x :=
  isReal_iff.mpr ⟨fun e => by rw [e] at h; simp at h, fun e => by rw [e] at h; simp at h⟩

/-- The comparison that the precondition makes of each element. -/
theorem real_of_cmp {s : Shape} (dims : Fin S_.rank → Fin s.rank) (x : FVec Ideal s .f32) (h : S_.BroadcastsInDim s dims) (i : s.Idx)
    (e : cmpf .olt (Host.absf x) (broadcastInDim s dims h (constant S_ .f32 0x7F800000#32)) i = 1#1) : IsReal (x i) := by
  have e : BitVec.ofBool (decide (max (x i) (-(x i)) < Ideal.ofBits .f32 2139095040#32)) = 1#1 := e
  rw [ofBits_top] at e
  refine real_of_lt ?_
  by_contra hh
  rw [decide_eq_false hh] at e
  exact absurd e (by decide)

/-- The precondition gives that every element of every input is a real number. -/
theorem real [hF : Facts] (x0 : FVec Ideal S2x2048x4096 .f32) (x1 : FVec Ideal S2x496x128x128 .f32) (x2 : FVec Ideal S2x496 .f32) (x3 : FVec Ideal S2x32x128x128 .f32)
    (e : fn x0 x1 x2 x3 = fun _ => 1#1) : (∀ i, IsReal (x0 i)) ∧ (∀ i, IsReal (x1 i)) ∧ (∀ i, IsReal (x2 i)) ∧ ∀ i, IsReal (x3 i) := by
  have e := congrFun e (Shape.Idx.first hF.h_S_)
  unfold fn fn_part1 at e
  obtain ⟨e, e3⟩ := and_one _ _ e
  obtain ⟨e, e2⟩ := and_one _ _ e
  obtain ⟨e0, e1⟩ := and_one _ _ e
  exact ⟨fun i => real_of_cmp _ x0 _ i (Host.reduce_andi_all _ _ _ _ _ e0 i), fun i => real_of_cmp _ x1 _ i (Host.reduce_andi_all _ _ _ _ _ e1 i),
    fun i => real_of_cmp _ x2 _ i (Host.reduce_andi_all _ _ _ _ _ e2 i), fun i => real_of_cmp _ x3 _ i (Host.reduce_andi_all _ _ _ _ _ e3 i)⟩

end Cert.Pre_finite
-- ==== Proof.Equal.lean ====
/- The kernel and the reference, from equal inputs that are real numbers, end with equal results. -/
module

public import proofs.«01_k».proof.Proof.Kern.Values
public import proofs.«01_k».proof.Proof.Ref.Values
public import proofs.«01_k».proof.Proof.Pre
public import proofs.«01_k».proof.Defs

@[expose] public section

set_option maxRecDepth 16384

noncomputable section

namespace Cert.Equal

open Idealize.ShloMosaic Idealize.ShloMosaic.TcCoe Idealize.ShloMosaic.Tactic
open Idealize.SL.Sem
open Cert.Math

/-- The tiles that the kernel's pipeline reads are the argument's: over the extended reals a cast changes no number. -/
theorem kern_tiles (m : (ℓ : Loc Cert.KernelIdeal.nD Cert.KernelIdeal.τ Cert.KernelIdeal.sig) → Buf (Elt Ideal) ℓ) (c : Dev Cert.KernelIdeal.nD)
    (z : Cert.KernelIdeal.S2x496x128x128.Idx) :
    (Cert.KernelIdeal.Gen.V m c Cert.KernelIdeal.main_v0 z : EReal) = m ((c.tc : Thread Cert.KernelIdeal.nD Cert.KernelIdeal.τ).loc Cert.KernelIdeal.main_arg1) z := rfl

/-- The tiles that the reference reads are the argument's. -/
theorem ref_tiles (m : (ℓ : Loc Cert.ReferenceIdeal.nD Cert.ReferenceIdeal.τ Cert.ReferenceIdeal.sig) → Buf (Elt Ideal) ℓ) (c : Dev Cert.ReferenceIdeal.nD)
    (z : Cert.ReferenceIdeal.S2x496x128x128.Idx) :
    (Cert.ReferenceIdeal.Gen.V m c Cert.ReferenceIdeal.main_v0 z : EReal) = m ((c.tc : Thread Cert.ReferenceIdeal.nD Cert.ReferenceIdeal.τ).loc Cert.ReferenceIdeal.main_arg1) z := rfl

/-- The precondition gives that the arrays that the kernel's pipeline reads hold real numbers only. -/
theorem allReal (m : (ℓ : Loc Cert.KernelIdeal.nD Cert.KernelIdeal.τ Cert.KernelIdeal.sig) → Buf (Elt Ideal) ℓ) [hF : Cert.Pre_finite.Facts]
    (h : Cert.Pre_KernelIdeal_finite m) : Cert.KernelIdeal.Values.AllReal m where
  rhs c b n p := (Cert.Pre_finite.real _ _ _ _ (h c)).1 (ix3 b n p)
  l c b t r k := (kern_tiles m c (ix4 b t r k)) ▸ (Cert.Pre_finite.real _ _ _ _ (h c)).2.1 (ix4 b t r k)
  ts c b t := (Cert.Pre_finite.real _ _ _ _ (h c)).2.2.1 (ix2 b t)
  d c b k r q := (Cert.Pre_finite.real _ _ _ _ (h c)).2.2.2 (ix4 b k r q)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments the kernel and the reference solve the same rows. -/
theorem row_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Values.row m' c = Cert.KernelIdeal.Values.row m c := by
  obtain ⟨h0, h1, h2, h3⟩ := h
  unfold Cert.ReferenceIdeal.Values.row Cert.KernelIdeal.Values.row
  congr 1
  · funext b n p; exact congrFun h0 (ix3 b n p)
  · funext b t r k
    exact ((ref_tiles m' c (ix4 b t r k)).trans (congrFun h1 (ix4 b t r k))).trans (kern_tiles m c (ix4 b t r k)).symm
  · funext b t; exact congrFun h2 (ix2 b t)
  · funext b k r q; exact congrFun h3 (ix4 b k r q)

/-- The value claim: the kernel's three results are the reference's. -/
theorem algebraic [hF : Cert.Pre_finite.Facts] : Cert.algebraic_KernelIdeal_ReferenceIdeal_pre_finite := by
  intro m g m' g' h hm
  refine ⟨fun c => Cert.KernelIdeal.Values.X m c, fun c => Cert.KernelIdeal.Values.C m c, fun c => Cert.KernelIdeal.Values.T m c,
    Cert.KernelIdeal.Values.run m g (allReal m h), ?_⟩
  refine (θ_run _ _ _).mono (fun r e c => ?_) (Cert.ReferenceIdeal.Values.run m' g')
  obtain ⟨e0, e1, e2, e⟩ := e c
  have hr := row_eq m m' c (hm c)
  refine ⟨e0.trans ?_, e1.trans ?_, e2.trans ?_, e⟩
  · funext z
    exact congrArg (fun R : Fin 2 → Fin 2048 → Row => (R (z 0) (z 1)).xAt (z 2)) hr
  · funext z
    exact congrArg (fun R : Fin 2 → Fin 2048 → Row => (R (z 0) (z 1)).codeCol (z 2)) hr
  · funext z
    exact congrArg (fun R : Fin 2 → Fin 2048 → Row => (R (z 0) (z 1)).scale (z 2).val) hr

end Cert.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Equal

@[expose] public section

noncomputable section

namespace Cert.Proof

/-- Everything claimed. The kernel's frames come first, at the bit-exact and at the ideal reading; then the reference's;
    then that the two readings are of one program; then the value claim. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => Cert.ReferenceIdeal.Values.quiet m g,
    fun m g _ => Cert.ReferenceIdeal.Values.quiet m g,
    trivial,
    Cert.Equal.algebraic⟩

end Cert.Proof

end
